-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x2048x1024 : Shape := ⟨3, ![8, 2048, 1024]⟩
abbrev S1024x1024 : Shape := ⟨2, ![1024, 1024]⟩
abbrev S2x15x128x512 : Shape := ⟨4, ![2, 15, 128, 512]⟩
abbrev S2x128x4x128x128 : Shape := ⟨5, ![2, 128, 4, 128, 128]⟩
abbrev S2x1024 : Shape := ⟨2, ![2, 1024]⟩
abbrev S1024x2560 : Shape := ⟨2, ![1024, 2560]⟩
abbrev S2x512 : Shape := ⟨2, ![2, 512]⟩
abbrev S2x1024x1024 : Shape := ⟨3, ![2, 1024, 1024]⟩
abbrev S2048x128 : Shape := ⟨2, ![2048, 128]⟩
abbrev S128x512 : Shape := ⟨2, ![128, 512]⟩
abbrev S1x512 : Shape := ⟨2, ![1, 512]⟩
abbrev S4x128x128 : Shape := ⟨3, ![4, 128, 128]⟩
abbrev S64x128 : Shape := ⟨2, ![64, 128]⟩
abbrev S64x512 : Shape := ⟨2, ![64, 512]⟩
abbrev S4x64x64 : Shape := ⟨3, ![4, 64, 64]⟩
abbrev S2x1024x4096 : Shape := ⟨3, ![2, 1024, 4096]⟩
abbrev S2x4096x1024 : Shape := ⟨3, ![2, 4096, 1024]⟩
abbrev S2x8x15x512 : Shape := ⟨4, ![2, 8, 15, 512]⟩
abbrev S2x8x4x128x128 : Shape := ⟨5, ![2, 8, 4, 128, 128]⟩
abbrev S1024x4096 : Shape := ⟨2, ![1024, 4096]⟩
abbrev S4096x1024 : Shape := ⟨2, ![4096, 1024]⟩
abbrev S1x1024x1024 : Shape := ⟨3, ![1, 1024, 1024]⟩
abbrev S64x1024 : Shape := ⟨2, ![64, 1024]⟩
abbrev S1x15x8x512 : Shape := ⟨4, ![1, 15, 8, 512]⟩
abbrev S1x8x4x128x128 : Shape := ⟨5, ![1, 8, 4, 128, 128]⟩
abbrev S1024x128 : Shape := ⟨2, ![1024, 128]⟩
abbrev S1x64x4096 : Shape := ⟨3, ![1, 64, 4096]⟩
abbrev S1x256x1024 : Shape := ⟨3, ![1, 256, 1024]⟩
abbrev S1x1x15x512 : Shape := ⟨4, ![1, 1, 15, 512]⟩
abbrev S1x1x4x128x128 : Shape := ⟨5, ![1, 1, 4, 128, 128]⟩
abbrev S64x4096 : Shape := ⟨2, ![64, 4096]⟩
abbrev S256x1024 : Shape := ⟨2, ![256, 1024]⟩
abbrev S1040x512 : Shape := ⟨2, ![1040, 512]⟩
abbrev S640x1024 : Shape := ⟨2, ![640, 1024]⟩
abbrev S1024x512 : Shape := ⟨2, ![1024, 512]⟩
abbrev S8x512x128 : Shape := ⟨3, ![8, 512, 128]⟩
abbrev S1088x1024 : Shape := ⟨2, ![1088, 1024]⟩
abbrev S8x24x512 : Shape := ⟨3, ![8, 24, 512]⟩
abbrev S16x512 : Shape := ⟨2, ![16, 512]⟩
abbrev S1x4x128x128 : Shape := ⟨4, ![1, 4, 128, 128]⟩
abbrev S1x384x1024 : Shape := ⟨3, ![1, 384, 1024]⟩
abbrev S384x1024 : Shape := ⟨2, ![384, 1024]⟩
abbrev S1x1024 : Shape := ⟨2, ![1, 1024]⟩
abbrev S384 : Shape := ⟨1, ![384]⟩
abbrev S384x1 : Shape := ⟨2, ![384, 1]⟩
abbrev S64 : Shape := ⟨1, ![64]⟩
abbrev S64x1 : Shape := ⟨2, ![64, 1]⟩
abbrev S448x1024 : Shape := ⟨2, ![448, 1024]⟩
abbrev S1024x256 : Shape := ⟨2, ![1024, 256]⟩
abbrev S448x256 : Shape := ⟨2, ![448, 256]⟩
abbrev S384x256 : Shape := ⟨2, ![384, 256]⟩
abbrev S64x256 : Shape := ⟨2, ![64, 256]⟩
abbrev S8x8x256 : Shape := ⟨3, ![8, 8, 256]⟩
abbrev S128x128 : Shape := ⟨2, ![128, 128]⟩
abbrev S1x128 : Shape := ⟨2, ![1, 128]⟩
abbrev S1x128x128 : Shape := ⟨3, ![1, 128, 128]⟩
abbrev S128x256 : Shape := ⟨2, ![128, 256]⟩
abbrev S400x128 : Shape := ⟨2, ![400, 128]⟩
abbrev S384x128 : Shape := ⟨2, ![384, 128]⟩
abbrev S1x640x1024 : Shape := ⟨3, ![1, 640, 1024]⟩
abbrev S640 : Shape := ⟨1, ![640]⟩
abbrev S640x1 : Shape := ⟨2, ![640, 1]⟩
abbrev S1x1x1x128x128 : Shape := ⟨5, ![1, 1, 1, 128, 128]⟩
abbrev S256x128 : Shape := ⟨2, ![256, 128]⟩
abbrev S640x256 : Shape := ⟨2, ![640, 256]⟩
abbrev S128 : Shape := ⟨1, ![128]⟩
abbrev S128x1 : Shape := ⟨2, ![128, 1]⟩
abbrev S1x16x4096 : Shape := ⟨3, ![1, 16, 4096]⟩
abbrev S16x4096 : Shape := ⟨2, ![16, 4096]⟩
abbrev S1x1024x256 : Shape := ⟨3, ![1, 1024, 256]⟩
abbrev S1x384x256 : Shape := ⟨3, ![1, 384, 256]⟩
abbrev S656x128 : Shape := ⟨2, ![656, 128]⟩
abbrev S640x128 : Shape := ⟨2, ![640, 128]⟩
abbrev S1x15x1x512 : Shape := ⟨4, ![1, 15, 1, 512]⟩
abbrev S15x512 : Shape := ⟨2, ![15, 512]⟩
abbrev S1x15x512 : Shape := ⟨3, ![1, 15, 512]⟩
abbrev S1x8x1 : Shape := ⟨3, ![1, 8, 1]⟩
abbrev S8x8x128 : Shape := ⟨3, ![8, 8, 128]⟩
abbrev S64x64 : Shape := ⟨2, ![64, 64]⟩
abbrev S1x64x64 : Shape := ⟨3, ![1, 64, 64]⟩
abbrev S1x64x1024 : Shape := ⟨3, ![1, 64, 1024]⟩
abbrev S8x128 : Shape := ⟨2, ![8, 128]⟩
abbrev S704x1024 : Shape := ⟨2, ![704, 1024]⟩
abbrev S704x256 : Shape := ⟨2, ![704, 256]⟩
abbrev S1x640x256 : Shape := ⟨3, ![1, 640, 256]⟩

abbrev nBuf : Space → Nat
  | .hbm => 35
  | .vmem => 63
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S2x15x128x512, .f32⟩
  | .hbm, ⟨3, _⟩ => ⟨S2x128x4x128x128, .f32⟩
  | .hbm, ⟨4, _⟩ => ⟨S2x1024, .f32⟩
  | .hbm, ⟨5, _⟩ => ⟨S1024x2560, .bf16⟩
  | .hbm, ⟨6, _⟩ => ⟨S2x512, .f32⟩
  | .hbm, ⟨7, _⟩ => ⟨S2x512, .f32⟩
  | .hbm, ⟨8, _⟩ => ⟨S2x1024x1024, .bf16⟩
  | .hbm, ⟨9, _⟩ => ⟨S2048x128, .f32⟩
  | .hbm, ⟨10, _⟩ => ⟨S2048x128, .f32⟩
  | .hbm, ⟨11, _⟩ => ⟨S128x512, .f32⟩
  | .hbm, ⟨12, _⟩ => ⟨S128x512, .f32⟩
  | .hbm, ⟨13, _⟩ => ⟨S1x512, .f32⟩
  | .hbm, ⟨14, _⟩ => ⟨S4x128x128, .f32⟩
  | .hbm, ⟨15, _⟩ => ⟨S64x128, .f32⟩
  | .hbm, ⟨16, _⟩ => ⟨S64x128, .f32⟩
  | .hbm, ⟨17, _⟩ => ⟨S64x512, .f32⟩
  | .hbm, ⟨18, _⟩ => ⟨S64x512, .f32⟩
  | .hbm, ⟨19, _⟩ => ⟨S1x512, .f32⟩
  | .hbm, ⟨20, _⟩ => ⟨S4x64x64, .f32⟩
  | .hbm, ⟨21, _⟩ => ⟨S2x1024x4096, .f32⟩
  | .hbm, ⟨22, _⟩ => ⟨S2x4096x1024, .f32⟩
  | .hbm, ⟨23, _⟩ => ⟨S2x8x15x512, .f32⟩
  | .hbm, ⟨24, _⟩ => ⟨S2x8x4x128x128, .f32⟩
  | .hbm, ⟨25, _⟩ => ⟨S2x15x128x512, .f32⟩
  | .hbm, ⟨26, _⟩ => ⟨S2x128x4x128x128, .f32⟩
  | .hbm, ⟨27, _⟩ => ⟨S8x2048x1024, .f32⟩
  | .hbm, ⟨28, _⟩ => ⟨S2x8x15x512, .f32⟩
  | .hbm, ⟨29, _⟩ => ⟨S2x8x4x128x128, .f32⟩
  | .hbm, ⟨30, _⟩ => ⟨S2x15x128x512, .f32⟩
  | .hbm, ⟨31, _⟩ => ⟨S2x128x4x128x128, .f32⟩
  | .hbm, ⟨32, _⟩ => ⟨S1024x1024, .f32⟩
  | .hbm, ⟨33, _⟩ => ⟨S1024x4096, .bf16⟩
  | .hbm, ⟨34, _⟩ => ⟨S4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S64x1024, .f32⟩
  | .local _ .vmem, ⟨3, _⟩ => ⟨S64x1024, .f32⟩
  | .local _ .vmem, ⟨4, _⟩ => ⟨S1x15x8x512, .f32⟩
  | .local _ .vmem, ⟨5, _⟩ => ⟨S1x15x8x512, .f32⟩
  | .local _ .vmem, ⟨6, _⟩ => ⟨S1x8x4x128x128, .f32⟩
  | .local _ .vmem, ⟨7, _⟩ => ⟨S1x8x4x128x128, .f32⟩
  | .local _ .vmem, ⟨8, _⟩ => ⟨S2x1024, .f32⟩
  | .local _ .vmem, ⟨9, _⟩ => ⟨S1024x2560, .bf16⟩
  | .local _ .vmem, ⟨10, _⟩ => ⟨S2x512, .f32⟩
  | .local _ .vmem, ⟨11, _⟩ => ⟨S2x512, .f32⟩
  | .local _ .vmem, ⟨12, _⟩ => ⟨S1x1024x1024, .bf16⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S128x512, .f32⟩
  | .local _ .vmem, ⟨18, _⟩ => ⟨S128x512, .f32⟩
  | .local _ .vmem, ⟨19, _⟩ => ⟨S1x512, .f32⟩
  | .local _ .vmem, ⟨20, _⟩ => ⟨S4x128x128, .f32⟩
  | .local _ .vmem, ⟨21, _⟩ => ⟨S64x128, .f32⟩
  | .local _ .vmem, ⟨22, _⟩ => ⟨S64x128, .f32⟩
  | .local _ .vmem, ⟨23, _⟩ => ⟨S64x512, .f32⟩
  | .local _ .vmem, ⟨24, _⟩ => ⟨S64x512, .f32⟩
  | .local _ .vmem, ⟨25, _⟩ => ⟨S1x512, .f32⟩
  | .local _ .vmem, ⟨26, _⟩ => ⟨S4x64x64, .f32⟩
  | .local _ .vmem, ⟨27, _⟩ => ⟨S1x64x4096, .f32⟩
  | .local _ .vmem, ⟨28, _⟩ => ⟨S1x64x4096, .f32⟩
  | .local _ .vmem, ⟨29, _⟩ => ⟨S1x256x1024, .f32⟩
  | .local _ .vmem, ⟨30, _⟩ => ⟨S1x256x1024, .f32⟩
  | .local _ .vmem, ⟨31, _⟩ => ⟨S1x1024x1024, .f32⟩
  | .local _ .vmem, ⟨32, _⟩ => ⟨S1x1024x1024, .f32⟩
  | .local _ .vmem, ⟨33, _⟩ => ⟨S1x1x15x512, .f32⟩
  | .local _ .vmem, ⟨34, _⟩ => ⟨S1x1x15x512, .f32⟩
  | .local _ .vmem, ⟨35, _⟩ => ⟨S1x1x4x128x128, .f32⟩
  | .local _ .vmem, ⟨36, _⟩ => ⟨S1x1x4x128x128, .f32⟩
  | .local _ .vmem, ⟨37, _⟩ => ⟨S1x15x8x512, .f32⟩
  | .local _ .vmem, ⟨38, _⟩ => ⟨S1x15x8x512, .f32⟩
  | .local _ .vmem, ⟨39, _⟩ => ⟨S1x8x4x128x128, .f32⟩
  | .local _ .vmem, ⟨40, _⟩ => ⟨S1x8x4x128x128, .f32⟩
  | .local _ .vmem, ⟨41, _⟩ => ⟨S64x1024, .f32⟩
  | .local _ .vmem, ⟨42, _⟩ => ⟨S64x1024, .f32⟩
  | .local _ .vmem, ⟨43, _⟩ => ⟨S64x4096, .bf16⟩
  | .local _ .vmem, ⟨44, _⟩ => ⟨S64x4096, .bf16⟩
  | .local _ .vmem, ⟨45, _⟩ => ⟨S256x1024, .bf16⟩
  | .local _ .vmem, ⟨46, _⟩ => ⟨S256x1024, .bf16⟩
  | .local _ .vmem, ⟨47, _⟩ => ⟨S1040x512, .f32⟩
  | .local _ .vmem, ⟨48, _⟩ => ⟨S640x1024, .bf16⟩
  | .local _ .vmem, ⟨49, _⟩ => ⟨S1024x512, .bf16⟩
  | .local _ .vmem, ⟨50, _⟩ => ⟨S8x512x128, .bf16⟩
  | .local _ .vmem, ⟨51, _⟩ => ⟨S8x512x128, .bf16⟩
  | .local _ .vmem, ⟨52, _⟩ => ⟨S1024x512, .bf16⟩
  | .local _ .vmem, ⟨53, _⟩ => ⟨S1024x512, .f32⟩
  | .local _ .vmem, ⟨54, _⟩ => ⟨S1088x1024, .bf16⟩
  | .local _ .vmem, ⟨55, _⟩ => ⟨S8x24x512, .f32⟩
  | .local _ .vmem, ⟨56, _⟩ => ⟨S64x512, .f32⟩
  | .local _ .vmem, ⟨57, _⟩ => ⟨S64x512, .f32⟩
  | .local _ .vmem, ⟨58, _⟩ => ⟨S64x512, .f32⟩
  | .local _ .vmem, ⟨59, _⟩ => ⟨S64x512, .f32⟩
  | .local _ .vmem, ⟨60, _⟩ => ⟨S64x512, .f32⟩
  | .local _ .vmem, ⟨61, _⟩ => ⟨S64x512, .f32⟩
  | .local _ .vmem, ⟨62, _⟩ => ⟨S64x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0_0 : Ref sig .tc := ⟨.hbm, 27, rfl⟩
abbrev main_v0_1 : Ref sig .tc := ⟨.hbm, 28, rfl⟩
abbrev main_v0_2 : Ref sig .tc := ⟨.hbm, 29, rfl⟩
abbrev main_v0_3 : Ref sig .tc := ⟨.hbm, 30, rfl⟩
abbrev main_v0_4 : Ref sig .tc := ⟨.hbm, 31, rfl⟩
abbrev main_v0_5 : Ref sig .tc := ⟨.hbm, 32, rfl⟩
abbrev main_v0_6 : Ref sig .tc := ⟨.hbm, 33, rfl⟩
abbrev main_v0_7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_stg29_0 : Ref sig .tc := ⟨.vmem, 43, rfl⟩
abbrev cc0_stg29_1 : Ref sig .tc := ⟨.vmem, 44, rfl⟩
abbrev cc0_stg30_0 : Ref sig .tc := ⟨.vmem, 45, rfl⟩
abbrev cc0_stg30_1 : Ref sig .tc := ⟨.vmem, 46, rfl⟩
abbrev cc0_scratch0 : Ref sig .tc := ⟨.vmem, 47, rfl⟩
abbrev cc0_scratch1 : Ref sig .tc := ⟨.vmem, 48, rfl⟩
abbrev cc0_scratch2 : Ref sig .tc := ⟨.vmem, 49, rfl⟩
abbrev cc0_scratch3 : Ref sig .tc := ⟨.vmem, 50, rfl⟩
abbrev cc0_scratch4 : Ref sig .tc := ⟨.vmem, 51, rfl⟩
abbrev cc0_scratch5 : Ref sig .tc := ⟨.vmem, 52, rfl⟩
abbrev cc0_scratch6 : Ref sig .tc := ⟨.vmem, 53, rfl⟩
abbrev cc0_scratch7 : Ref sig .tc := ⟨.vmem, 54, rfl⟩
abbrev cc0_scratch8 : Ref sig .tc := ⟨.vmem, 55, rfl⟩
abbrev cc0_scratch9 : Ref sig .tc := ⟨.vmem, 56, rfl⟩
abbrev cc0_scratch10 : Ref sig .tc := ⟨.vmem, 57, rfl⟩
abbrev cc0_scratch11 : Ref sig .tc := ⟨.vmem, 58, rfl⟩
abbrev cc0_scratch12 : Ref sig .tc := ⟨.vmem, 59, rfl⟩
abbrev cc0_scratch13 : Ref sig .tc := ⟨.vmem, 60, rfl⟩
abbrev cc0_scratch14 : Ref sig .tc := ⟨.vmem, 61, rfl⟩
abbrev cc0_scratch15 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40
abbrev cc0_sem28_0 : DmaSem sig := 41
abbrev cc0_sem28_1 : DmaSem sig := 42
abbrev cc0_sem29_0 : DmaSem sig := 43
abbrev cc0_sem29_1 : DmaSem sig := 44
abbrev cc0_sem30_0 : DmaSem sig := 45
abbrev cc0_sem30_1 : DmaSem sig := 46

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  ![c1_i32.toNat, c0_i32.toNat, v1.toNat, c0_i32_0.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_22 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_29 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_30 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  ![c1_i32.toNat, c0_i32.toNat, v1.toNat, c0_i32_0.toNat]

def cc0_transform_31 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v1.toNat, c0_i32.toNat, c0_i32_0.toNat, c0_i32_1.toNat]

def cc0_transform_32 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_33 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_34 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x15x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S64x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S64x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S64x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S4x64x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x64x4096 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1024x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1x15x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]

abbrev stage0_25 : Fin 2 → Memref sig .tc .vmem S1x1x4x128x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]

abbrev stage0_26 : Fin 2 → Memref sig .tc .vmem S1x15x8x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x8x4x128x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S64x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S64x4096 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S256x1024 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]
-- ==== ReferenceIdeal.lean ====
abbrev S8x2048x1024 : Shape := ⟨3, ![8, 2048, 1024]⟩
abbrev S1024x1024 : Shape := ⟨2, ![1024, 1024]⟩
abbrev S2x15x128x512 : Shape := ⟨4, ![2, 15, 128, 512]⟩
abbrev S2x128x4x128x128 : Shape := ⟨5, ![2, 128, 4, 128, 128]⟩
abbrev S2x1024 : Shape := ⟨2, ![2, 1024]⟩
abbrev S1024x2560 : Shape := ⟨2, ![1024, 2560]⟩
abbrev S2x512 : Shape := ⟨2, ![2, 512]⟩
abbrev S2x1024x1024 : Shape := ⟨3, ![2, 1024, 1024]⟩
abbrev S2048x128 : Shape := ⟨2, ![2048, 128]⟩
abbrev S128x512 : Shape := ⟨2, ![128, 512]⟩
abbrev S1x512 : Shape := ⟨2, ![1, 512]⟩
abbrev S4x128x128 : Shape := ⟨3, ![4, 128, 128]⟩
abbrev S64x128 : Shape := ⟨2, ![64, 128]⟩
abbrev S64x512 : Shape := ⟨2, ![64, 512]⟩
abbrev S4x64x64 : Shape := ⟨3, ![4, 64, 64]⟩
abbrev S2x1024x4096 : Shape := ⟨3, ![2, 1024, 4096]⟩
abbrev S2x4096x1024 : Shape := ⟨3, ![2, 4096, 1024]⟩
abbrev S2x8x15x512 : Shape := ⟨4, ![2, 8, 15, 512]⟩
abbrev S2x8x4x128x128 : Shape := ⟨5, ![2, 8, 4, 128, 128]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x512 : Shape := ⟨2, ![1024, 512]⟩
abbrev S8x2048x512 : Shape := ⟨3, ![8, 2048, 512]⟩
abbrev S8x15x512 : Shape := ⟨3, ![8, 15, 512]⟩
abbrev S1024x1 : Shape := ⟨2, ![1024, 1]⟩
abbrev S128x8x512 : Shape := ⟨3, ![128, 8, 512]⟩
abbrev S8x128x512 : Shape := ⟨3, ![8, 128, 512]⟩
abbrev S1x15x128x512 : Shape := ⟨4, ![1, 15, 128, 512]⟩
abbrev S15x128x512 : Shape := ⟨3, ![15, 128, 512]⟩
abbrev S23x128x512 : Shape := ⟨3, ![23, 128, 512]⟩
abbrev S1x8x15x512 : Shape := ⟨4, ![1, 8, 15, 512]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S2x15x128x512, .f32⟩
  | .hbm, ⟨3, _⟩ => ⟨S2x128x4x128x128, .f32⟩
  | .hbm, ⟨4, _⟩ => ⟨S2x1024, .f32⟩
  | .hbm, ⟨5, _⟩ => ⟨S1024x2560, .bf16⟩
  | .hbm, ⟨6, _⟩ => ⟨S2x512, .f32⟩
  | .hbm, ⟨7, _⟩ => ⟨S2x512, .f32⟩
  | .hbm, ⟨8, _⟩ => ⟨S2x1024x1024, .bf16⟩
  | .hbm, ⟨9, _⟩ => ⟨S2048x128, .f32⟩
  | .hbm, ⟨10, _⟩ => ⟨S2048x128, .f32⟩
  | .hbm, ⟨11, _⟩ => ⟨S128x512, .f32⟩
  | .hbm, ⟨12, _⟩ => ⟨S128x512, .f32⟩
  | .hbm, ⟨13, _⟩ => ⟨S1x512, .f32⟩
  | .hbm, ⟨14, _⟩ => ⟨S4x128x128, .f32⟩
  | .hbm, ⟨15, _⟩ => ⟨S64x128, .f32⟩
  | .hbm, ⟨16, _⟩ => ⟨S64x128, .f32⟩
  | .hbm, ⟨17, _⟩ => ⟨S64x512, .f32⟩
  | .hbm, ⟨18, _⟩ => ⟨S64x512, .f32⟩
  | .hbm, ⟨19, _⟩ => ⟨S1x512, .f32⟩
  | .hbm, ⟨20, _⟩ => ⟨S4x64x64, .f32⟩
  | .hbm, ⟨21, _⟩ => ⟨S2x1024x4096, .f32⟩
  | .hbm, ⟨22, _⟩ => ⟨S2x4096x1024, .f32⟩
  | .hbm, ⟨23, _⟩ => ⟨S2x8x15x512, .f32⟩
  | .hbm, ⟨24, _⟩ => ⟨S2x8x4x128x128, .f32⟩
  | .hbm, ⟨25, _⟩ => ⟨S2x15x128x512, .f32⟩
  | .hbm, ⟨26, _⟩ => ⟨S2x128x4x128x128, .f32⟩
  | .hbm, ⟨27, _⟩ => ⟨S1x1024, .f32⟩
  | .hbm, ⟨28, _⟩ => ⟨S1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S1024x512, .bf16⟩
  | .hbm, ⟨46, _⟩ => ⟨S1024x512, .f32⟩
  | .hbm, ⟨47, _⟩ => ⟨S8x2048x512, .f32⟩
  | .hbm, ⟨48, _⟩ => ⟨S8x15x512, .f32⟩
  | .hbm, ⟨49, _⟩ => ⟨S1x1024, .f32⟩
  | .hbm, ⟨50, _⟩ => ⟨S1024, .f32⟩
  | .hbm, ⟨51, _⟩ => ⟨S1024x1024, .f32⟩
  | .hbm, ⟨52, _⟩ => ⟨S_, .f32⟩
  | .hbm, ⟨53, _⟩ => ⟨S1024, .f32⟩
  | .hbm, ⟨54, _⟩ => ⟨S1024x1, .f32⟩
  | .hbm, ⟨55, _⟩ => ⟨S_, .f32⟩
  | .hbm, ⟨56, _⟩ => ⟨S1024x1, .f32⟩
  | .hbm, ⟨57, _⟩ => ⟨S1024x1, .f32⟩
  | .hbm, ⟨58, _⟩ => ⟨S_, .f32⟩
  | .hbm, ⟨59, _⟩ => ⟨S1024x1, .f32⟩
  | .hbm, ⟨60, _⟩ => ⟨S1024x1, .f32⟩
  | .hbm, ⟨61, _⟩ => ⟨S1024x1, .f32⟩
  | .hbm, ⟨62, _⟩ => ⟨S1024x1024, .f32⟩
  | .hbm, ⟨63, _⟩ => ⟨S1024x1024, .f32⟩
  | .hbm, ⟨64, _⟩ => ⟨S1x1024, .f32⟩
  | .hbm, ⟨65, _⟩ => ⟨S1024x1024, .f32⟩
  | .hbm, ⟨66, _⟩ => ⟨S1024x1024, .f32⟩
  | .hbm, ⟨67, _⟩ => ⟨S1024x512, .bf16⟩
  | .hbm, ⟨68, _⟩ => ⟨S1024x512, .f32⟩
  | .hbm, ⟨69, _⟩ => ⟨S1024x512, .f32⟩
  | .hbm, ⟨70, _⟩ => ⟨S128x8x512, .f32⟩
  | .hbm, ⟨71, _⟩ => ⟨S8x128x512, .f32⟩
  | .hbm, ⟨72, _⟩ => ⟨S1x15x128x512, .f32⟩
  | .hbm, ⟨73, _⟩ => ⟨S15x128x512, .f32⟩
  | .hbm, ⟨74, _⟩ => ⟨S23x128x512, .f32⟩
  | .hbm, ⟨75, _⟩ => ⟨S15x128x512, .f32⟩
  | .hbm, ⟨76, _⟩ => ⟨S1x8x15x512, .f32⟩
  | .hbm, ⟨77, _⟩ => ⟨S8x15x512, .f32⟩
  | .hbm, ⟨78, _⟩ => ⟨S1x8x15x512, .f32⟩
  | .hbm, ⟨79, _⟩ => ⟨S1x8x15x512, .f32⟩
  | .hbm, ⟨80, _⟩ => ⟨S2x8x15x512, .f32⟩
  | .hbm, ⟨81, _⟩ => ⟨S1x15x128x512, .f32⟩
  | .hbm, ⟨82, _⟩ => ⟨S15x128x512, .f32⟩
  | .hbm, ⟨83, _⟩ => ⟨S1x15x128x512, .f32⟩
  | .hbm, ⟨84, _⟩ => ⟨S1x15x128x512, .f32⟩
  | .hbm, ⟨85, _⟩ => ⟨S2x15x128x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_v4 : Ref sig .tc := ⟨.hbm, 32, rfl⟩
abbrev main_cst_0 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_2 : Ref sig .tc := ⟨.hbm, 52, rfl⟩
abbrev main_v22 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_v25 : Ref sig .tc := ⟨.hbm, 57, rfl⟩
abbrev main_cst_4 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S32x1024 : Shape := ⟨2, ![32, 1024]⟩
abbrev S512 : Shape := ⟨1, ![512]⟩
abbrev S512x1 : Shape := ⟨2, ![512, 1]⟩
abbrev S32 : Shape := ⟨1, ![32]⟩
abbrev S32x1 : Shape := ⟨2, ![32, 1]⟩
abbrev S544x1024 : Shape := ⟨2, ![544, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S2x1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S16384x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S2x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S32x1024, .f32⟩
  | .local _ .vmem, ⟨11, _⟩ => ⟨S32x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1024x1 : Shape := ⟨2, ![1024, 1]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S2x1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x4096, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S4096x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S1024x1024, .f32⟩
  | .hbm, ⟨51, _⟩ => ⟨S_, .f32⟩
  | .hbm, ⟨52, _⟩ => ⟨S1024, .f32⟩
  | .hbm, ⟨53, _⟩ => ⟨S1024x1, .f32⟩
  | .hbm, ⟨54, _⟩ => ⟨S_, .f32⟩
  | .hbm, ⟨55, _⟩ => ⟨S1024x1, .f32⟩
  | .hbm, ⟨56, _⟩ => ⟨S1024x1, .f32⟩
  | .hbm, ⟨57, _⟩ => ⟨S_, .f32⟩
  | .hbm, ⟨58, _⟩ => ⟨S1024x1, .f32⟩
  | .hbm, ⟨59, _⟩ => ⟨S1024x1, .f32⟩
  | .hbm, ⟨60, _⟩ => ⟨S1024x1, .f32⟩
  | .hbm, ⟨61, _⟩ => ⟨S1024x1024, .f32⟩
  | .hbm, ⟨62, _⟩ => ⟨S1024x1024, .f32⟩
  | .hbm, ⟨63, _⟩ => ⟨S1x1024, .f32⟩
  | .hbm, ⟨64, _⟩ => ⟨S1024x1024, .f32⟩
  | .hbm, ⟨65, _⟩ => ⟨S1024x1024, .f32⟩
  | .hbm, ⟨66, _⟩ => ⟨S1024x4096, .f32⟩
  | .hbm, ⟨67, _⟩ => ⟨S1024x4096, .f32⟩
  | .hbm, ⟨68, _⟩ => ⟨S_, .f32⟩
  | .hbm, ⟨69, _⟩ => ⟨S1024x4096, .f32⟩
  | .hbm, ⟨70, _⟩ => ⟨S1024x4096, .f32⟩
  | .hbm, ⟨71, _⟩ => ⟨S1024x4096, .f32⟩
  | .hbm, ⟨72, _⟩ => ⟨S4096x1024, .f32⟩
  | .hbm, ⟨73, _⟩ => ⟨S1024x1024, .f32⟩
  | .hbm, ⟨74, _⟩ => ⟨S1024x1024, .f32⟩
  | .hbm, ⟨75, _⟩ => ⟨S1024x1024, .f32⟩
  | .hbm, ⟨76, _⟩ => ⟨S_, .f32⟩
  | .hbm, ⟨77, _⟩ => ⟨S1024, .f32⟩
  | .hbm, ⟨78, _⟩ => ⟨S1024x1, .f32⟩
  | .hbm, ⟨79, _⟩ => ⟨S_, .f32⟩
  | .hbm, ⟨80, _⟩ => ⟨S1024x1, .f32⟩
  | .hbm, ⟨81, _⟩ => ⟨S1024x1, .f32⟩
  | .hbm, ⟨82, _⟩ => ⟨S_, .f32⟩
  | .hbm, ⟨83, _⟩ => ⟨S1024x1, .f32⟩
  | .hbm, ⟨84, _⟩ => ⟨S1024x1, .f32⟩
  | .hbm, ⟨85, _⟩ => ⟨S1024x1, .f32⟩
  | .hbm, ⟨86, _⟩ => ⟨S1024x1024, .f32⟩
  | .hbm, ⟨87, _⟩ => ⟨S1024x1024, .f32⟩
  | .hbm, ⟨88, _⟩ => ⟨S1x1024, .f32⟩
  | .hbm, ⟨89, _⟩ => ⟨S1024x1024, .f32⟩
  | .hbm, ⟨90, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call1_cst : Ref sig .tc := ⟨.hbm, 68, rfl⟩
abbrev main_call1_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1x1024 : Shape := ⟨2, ![1, 1024]⟩
abbrev S2x1024x2560 : Shape := ⟨3, ![2, 1024, 2560]⟩
abbrev S1024x2560 : Shape := ⟨2, ![1024, 2560]⟩
abbrev S512x1024 : Shape := ⟨2, ![512, 1024]⟩
abbrev S32x1024 : Shape := ⟨2, ![32, 1024]⟩
abbrev S1x32x2560 : Shape := ⟨3, ![1, 32, 2560]⟩
abbrev S32x2560 : Shape := ⟨2, ![32, 2560]⟩
abbrev S512 : Shape := ⟨1, ![512]⟩
abbrev S512x1 : Shape := ⟨2, ![512, 1]⟩
abbrev S32 : Shape := ⟨1, ![32]⟩
abbrev S32x1 : Shape := ⟨2, ![32, 1]⟩
abbrev S544x1024 : Shape := ⟨2, ![544, 1024]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S2x1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S2x1024x2560, .f32⟩
  | .hbm, ⟨7, _⟩ => ⟨S16384x1024, .f32⟩
  | .hbm, ⟨8, _⟩ => ⟨S1024x1024, .f32⟩
  | .hbm, ⟨9, _⟩ => ⟨S1024x2560, .bf16⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S2x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S1x32x2560, .f32⟩
  | .local _ .vmem, ⟨9, _⟩ => ⟨S1x32x2560, .f32⟩
  | .local _ .vmem, ⟨10, _⟩ => ⟨S512x1024, .f32⟩
  | .local _ .vmem, ⟨11, _⟩ => ⟨S512x1024, .f32⟩
  | .local _ .vmem, ⟨12, _⟩ => ⟨S32x1024, .f32⟩
  | .local _ .vmem, ⟨13, _⟩ => ⟨S32x1024, .f32⟩
  | .local _ .vmem, ⟨14, _⟩ => ⟨S32x2560, .bf16⟩
  | .local _ .vmem, ⟨15, _⟩ => ⟨S32x2560, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1x1024 : Shape := ⟨2, ![1, 1024]⟩
abbrev S2x1024x2560 : Shape := ⟨3, ![2, 1024, 2560]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1024x1 : Shape := ⟨2, ![1024, 1]⟩
abbrev S1x1024x2560 : Shape := ⟨3, ![1, 1024, 2560]⟩
abbrev S1024x2560 : Shape := ⟨2, ![1024, 2560]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S2x1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S2x1024x2560, .f32⟩
  | .hbm, ⟨7, _⟩ => ⟨S1x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x4096, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S4096x1024, .f32⟩
  | .hbm, ⟨32, _⟩ => ⟨S16384x1024, .f32⟩
  | .hbm, ⟨33, _⟩ => ⟨S16384x1024, .f32⟩
  | .hbm, ⟨34, _⟩ => ⟨S1024x1024, .f32⟩
  | .hbm, ⟨35, _⟩ => ⟨S_, .f32⟩
  | .hbm, ⟨36, _⟩ => ⟨S1024, .f32⟩
  | .hbm, ⟨37, _⟩ => ⟨S1024x1, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S1024x1, .f32⟩
  | .hbm, ⟨45, _⟩ => ⟨S1024x1024, .f32⟩
  | .hbm, ⟨46, _⟩ => ⟨S1024x1024, .f32⟩
  | .hbm, ⟨47, _⟩ => ⟨S1x1024, .f32⟩
  | .hbm, ⟨48, _⟩ => ⟨S1024x1024, .f32⟩
  | .hbm, ⟨49, _⟩ => ⟨S1024x1024, .f32⟩
  | .hbm, ⟨50, _⟩ => ⟨S1024x4096, .f32⟩
  | .hbm, ⟨51, _⟩ => ⟨S1024x4096, .f32⟩
  | .hbm, ⟨52, _⟩ => ⟨S_, .f32⟩
  | .hbm, ⟨53, _⟩ => ⟨S1024x4096, .f32⟩
  | .hbm, ⟨54, _⟩ => ⟨S1024x4096, .f32⟩
  | .hbm, ⟨55, _⟩ => ⟨S1024x4096, .f32⟩
  | .hbm, ⟨56, _⟩ => ⟨S4096x1024, .f32⟩
  | .hbm, ⟨57, _⟩ => ⟨S1024x1024, .f32⟩
  | .hbm, ⟨58, _⟩ => ⟨S1024x1024, .f32⟩
  | .hbm, ⟨59, _⟩ => ⟨S1x1024x2560, .f32⟩
  | .hbm, ⟨60, _⟩ => ⟨S1024x2560, .f32⟩
  | .hbm, ⟨61, _⟩ => ⟨S1024x2560, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_cst : Ref sig .tc := ⟨.hbm, 52, rfl⟩
abbrev main_call1_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Proof.MixTile.lean ====
/-  Buffers filled piece by piece, read through one function of the natural coordinates: if every piece holds the values of
    that function, so does every load the pieces cover. -/
module

public import proofs.«01_k».proof.Proof.Gen.KernelIdeal.Skeleton
public import Idealize.ShloMosaic.Lib.Pointwise
public import Idealize.ShloMosaic.Lib.WholeRead
public import Idealize.ShloMosaic.Lib.Pipeline.ValueKit

@[expose] public section

set_option maxRecDepth 16384

noncomputable section

open Idealize.ShloMosaic Idealize.ShloMosaic.TcCoe Idealize.SL.Sem

namespace Cert.Mix

variable {s : Shape} {e : EltTy} {sig : RefSig} {κ : Kind} {sp : Space}

/-- Every piece of the list holds, at each of its indices, the value of `f` at the coordinates it writes to. -/
def Agrees (L : List (View.Piece (Elt Ideal) s e)) (f : (Fin s.rank → ℕ) → Elt Ideal e) : Prop :=
  ∀ p ∈ L, ∀ x : p.1.shape.Idx, p.2 x = f (fun a => (p.1.emb x a : ℕ))

theorem agrees_nil (f : (Fin s.rank → ℕ) → Elt Ideal e) : Agrees [] f := by
  intro p hp; simp at hp

/-- One piece more: it must hold the function's values from its offset on. -/
theorem Agrees.cons {off size : Fin s.rank → ℕ} {inb : ∀ a, off a + size a ≤ s.size a}
    {w : (Rect.unit off size inb).shape.Idx → Elt Ideal e}
    {L : List (View.Piece (Elt Ideal) s e)} {f : (Fin s.rank → ℕ) → Elt Ideal e}
    (hL : Agrees L f) (h : ∀ x : (Rect.unit off size inb).shape.Idx, w x = f (fun a => off a + (x a).val)) :
    Agrees (⟨Rect.unit off size inb, w⟩ :: L) f := by
  intro p hp
  rcases List.mem_cons.mp hp with rfl | hp
  · intro x
    refine (h x).trans (congrArg f (funext fun a => ?_))
    rw [Rect.emb_apply]
    show _ = off a + 1 * (x a).val
    rw [Nat.one_mul]
  · exact hL p hp

/-- Some piece of the list writes to index `y`. -/
def Covers (L : List (View.Piece (Elt Ideal) s e)) (y : s.Idx) : Prop := ∃ p ∈ L, y ∈ p.1.set

/-- A piece's offset, extent and stride on each axis. -/
def geom (p : View.Piece (Elt Ideal) s e) : List (ℕ × ℕ × ℕ) :=
  List.ofFn fun a => (p.1.off a, p.1.size a, p.1.stride a)

/-- The box of offsets and extents `B` lies in the box of the piece described by `q`. -/
def within (B : List (ℕ × ℕ)) (q : List (ℕ × ℕ × ℕ)) : Bool :=
  (List.zip B q).all fun z => z.2.2.2 == 1 && z.2.1 ≤ z.1.1 && z.1.1 + z.1.2 ≤ z.2.1 + z.2.2.1

theorem covers_of_within {L : List (View.Piece (Elt Ideal) s e)} {gs : List (List (ℕ × ℕ × ℕ))} (hg : L.map geom = gs)
    (off size : Fin s.rank → ℕ) (hw : gs.any (within (List.ofFn fun a => (off a, size a))) = true)
    (y : s.Idx) (hy : ∀ a, off a ≤ (y a).val ∧ (y a).val < off a + size a) : Covers L y := by
  subst hg
  rw [List.any_map, List.any_eq_true] at hw
  obtain ⟨p, hp, h⟩ := hw
  refine ⟨p, hp, p.1.mem_set.mpr fun a => ?_⟩
  have h' := List.all_eq_true.mp h ((off a, size a), (p.1.off a, p.1.size a, p.1.stride a)) ?_
  · simp only [Bool.and_eq_true, beq_iff_eq, decide_eq_true_eq] at h'
    obtain ⟨⟨h1, h2⟩, h3⟩ := h'
    refine ⟨(y a).val - p.1.off a, ?_, ?_⟩
    · have := hy a; omega
    · have := hy a; rw [h1]; omega
  · rw [List.mem_iff_getElem]
    refine ⟨a.val, by simp [geom], ?_⟩
    simp [geom]

/-- A load of a box inside one of the pieces reads the function from the box's offset on. -/
theorem load {v : View sig κ sp s e} {L : List (View.Piece (Elt Ideal) s e)} {f : (Fin s.rank → ℕ) → Elt Ideal e}
    (hL : Agrees L f) {off size : Fin s.rank → ℕ} {inb : ∀ a, off a + size a ≤ s.size a}
    (hc : ∀ y : s.Idx, (∀ a, off a ≤ (y a).val ∧ (y a).val < off a + size a) → Covers L y) :
    v.readCov L (Rect.unit off size inb).toLoadRect = fun j => f (fun a => off a + (j a).val) := by
  rw [View.readCov_eq_canon']
  funext j
  have hj : ∀ a, (((Rect.unit off size inb).toLoadRect.idx j) a : ℕ) = off a + (j a).val := fun a => by
    rw [LoadRect.idx_apply]
    show off a + 1 * (j a).val = _
    rw [Nat.one_mul]
  rw [View.canon_apply_of_pieces (fun y => f (fun a => (y a : ℕ))) L hL _ (hc _ fun a => ?_)]
  · exact congrArg f (funext hj)
  · rw [hj a]
    exact ⟨Nat.le_add_right _ _, Nat.add_lt_add_left (j a).isLt _⟩

/-- The same, the box found inside one of the pieces by their offsets and extents. -/
theorem load1 {v : View sig κ sp s e} {L : List (View.Piece (Elt Ideal) s e)} {f : (Fin s.rank → ℕ) → Elt Ideal e}
    (hL : Agrees L f) {off size : Fin s.rank → ℕ} {inb : ∀ a, off a + size a ≤ s.size a}
    {gs : List (List (ℕ × ℕ × ℕ))} (hg : L.map geom = gs)
    (hw : gs.any (within (List.ofFn fun a => (off a, size a))) = true) :
    v.readCov L (Rect.unit off size inb).toLoadRect = fun j => f (fun a => off a + (j a).val) :=
  load hL (covers_of_within hg off size hw)

/-- A matrix read at natural coordinates, zero outside. -/
def N2 {n m : ℕ} (x : (⟨2, ![n, m]⟩ : Shape).Idx → EReal) (i j : ℕ) : EReal :=
  if h : i < n ∧ j < m then x (ix2 ⟨i, h.1⟩ ⟨j, h.2⟩) else 0

/-- A rank-three array read at natural coordinates, zero outside. -/
def N3 {n m k : ℕ} (x : (⟨3, ![n, m, k]⟩ : Shape).Idx → EReal) (i j l : ℕ) : EReal :=
  if h : i < n ∧ j < m ∧ l < k then x (ix3 ⟨i, h.1⟩ ⟨j, h.2.1⟩ ⟨l, h.2.2⟩) else 0

theorem N2_fin {n m : ℕ} (x : (⟨2, ![n, m]⟩ : Shape).Idx → EReal) (i : Fin n) (j : Fin m) :
    N2 x i j = x (ix2 i j) := dif_pos ⟨i.2, j.2⟩

theorem N3_fin {n m k : ℕ} (x : (⟨3, ![n, m, k]⟩ : Shape).Idx → EReal) (i : Fin n) (j : Fin m) (l : Fin k) :
    N3 x i j l = x (ix3 i j l) := dif_pos ⟨i.2, j.2, l.2⟩

theorem N2_idx {n m : ℕ} (x : (⟨2, ![n, m]⟩ : Shape).Idx → EReal) (y : (⟨2, ![n, m]⟩ : Shape).Idx) :
    x y = N2 x (y 0).val (y 1).val := (congrArg x (eq_ix2 y)).trans (N2_fin x (y 0) (y 1)).symm

theorem N3_idx {n m k : ℕ} (x : (⟨3, ![n, m, k]⟩ : Shape).Idx → EReal) (y : (⟨3, ![n, m, k]⟩ : Shape).Idx) :
    x y = N3 x (y 0).val (y 1).val (y 2).val := (congrArg x (eq_ix3 y)).trans (N3_fin x (y 0) (y 1) (y 2)).symm

theorem N3_congr {n m k : ℕ} (x : (⟨3, ![n, m, k]⟩ : Shape).Idx → EReal) {i i' j j' l l' : ℕ} (hi : i = i') (hj : j = j')
    (hl : l = l') : N3 x i j l = N3 x i' j' l' := by subst hi hj hl; rfl

/-- A load of an input window held at `x`, a matrix of `f32`. -/
theorem arg2 {n m : ℕ} {M : Memref sig κ sp ⟨2, ![n, m]⟩ .f32} (h : M.IsWhole)
    (x : (⟨2, ![n, m]⟩ : Shape).Idx → EReal) {a b p q : ℕ}
    {inb : ∀ k, (![a, b] : Fin 2 → ℕ) k + (![p, q] : Fin 2 → ℕ) k ≤ (⟨2, ![n, m]⟩ : Shape).size k} :
    View.readAt (Elt Ideal) M.view (Rect.unit (s := ⟨2, ![n, m]⟩) ![a, b] ![p, q] inb).toLoadRect (h.unread x)
      = fun j => N2 x (a + (j 0).val) (b + (j 1).val) := by
  funext j
  refine (Memref.IsWhole.readAt_unread (Val := Elt Ideal) (e := .f32) h x _ j).trans ((N2_idx x _).trans ?_)
  simp only [LoadRect.idx_apply]
  exact congrArg₂ (N2 x) (congrArg (a + ·) (Nat.one_mul _)) (congrArg (b + ·) (Nat.one_mul _))

/-- A load of an input window held at `x`, a rank-three array of `f32`. -/
theorem arg3 {n m k : ℕ} {M : Memref sig κ sp ⟨3, ![n, m, k]⟩ .f32} (h : M.IsWhole)
    (x : (⟨3, ![n, m, k]⟩ : Shape).Idx → EReal) {a b c p q r : ℕ}
    {inb : ∀ t, (![a, b, c] : Fin 3 → ℕ) t + (![p, q, r] : Fin 3 → ℕ) t ≤ (⟨3, ![n, m, k]⟩ : Shape).size t} :
    View.readAt (Elt Ideal) M.view (Rect.unit (s := ⟨3, ![n, m, k]⟩) ![a, b, c] ![p, q, r] inb).toLoadRect (h.unread x)
      = fun j => N3 x (a + (j 0).val) (b + (j 1).val) (c + (j 2).val) := by
  funext j
  refine (Memref.IsWhole.readAt_unread (Val := Elt Ideal) (e := .f32) h x _ j).trans ((N3_idx x _).trans ?_)
  simp only [LoadRect.idx_apply]
  exact N3_congr x (congrArg (a + ·) (Nat.one_mul _)) (congrArg (b + ·) (Nat.one_mul _)) (congrArg (c + ·) (Nat.one_mul _))

/-- A load of an input window held at `x`, a matrix of `bf16`. -/
theorem arg2b {n m : ℕ} {M : Memref sig κ sp ⟨2, ![n, m]⟩ .bf16} (h : M.IsWhole)
    (x : (⟨2, ![n, m]⟩ : Shape).Idx → EReal) {a b p q : ℕ}
    {inb : ∀ k, (![a, b] : Fin 2 → ℕ) k + (![p, q] : Fin 2 → ℕ) k ≤ (⟨2, ![n, m]⟩ : Shape).size k} :
    View.readAt (Elt Ideal) M.view (Rect.unit (s := ⟨2, ![n, m]⟩) ![a, b] ![p, q] inb).toLoadRect (h.unread x)
      = fun j => N2 x (a + (j 0).val) (b + (j 1).val) := by
  funext j
  refine (Memref.IsWhole.readAt_unread (Val := Elt Ideal) (e := .bf16) h x _ j).trans ((N2_idx x _).trans ?_)
  simp only [LoadRect.idx_apply]
  exact congrArg₂ (N2 x) (congrArg (a + ·) (Nat.one_mul _)) (congrArg (b + ·) (Nat.one_mul _))

/-- A load of an input window held at `x`, a rank-three array of `bf16`. -/
theorem arg3b {n m k : ℕ} {M : Memref sig κ sp ⟨3, ![n, m, k]⟩ .bf16} (h : M.IsWhole)
    (x : (⟨3, ![n, m, k]⟩ : Shape).Idx → EReal) {a b c p q r : ℕ}
    {inb : ∀ t, (![a, b, c] : Fin 3 → ℕ) t + (![p, q, r] : Fin 3 → ℕ) t ≤ (⟨3, ![n, m, k]⟩ : Shape).size t} :
    View.readAt (Elt Ideal) M.view (Rect.unit (s := ⟨3, ![n, m, k]⟩) ![a, b, c] ![p, q, r] inb).toLoadRect (h.unread x)
      = fun j => N3 x (a + (j 0).val) (b + (j 1).val) (c + (j 2).val) := by
  funext j
  refine (Memref.IsWhole.readAt_unread (Val := Elt Ideal) (e := .bf16) h x _ j).trans ((N3_idx x _).trans ?_)
  simp only [LoadRect.idx_apply]
  exact N3_congr x (congrArg (a + ·) (Nat.one_mul _)) (congrArg (b + ·) (Nat.one_mul _)) (congrArg (c + ·) (Nat.one_mul _))

end Cert.Mix

end
-- ==== Proof.MixVec.lean ====
/-  The first half of the layer at one grid point, over natural coordinates: the rows of the block, the tables and what is
    carried in, the functions that a point computes from them, and the tile-sized vector expressions that compute them. -/
module

public import proofs.«01_k».proof.Proof.MixTile

@[expose] public section

set_option maxRecDepth 16384

noncomputable section

open Idealize.ShloMosaic Idealize.ShloMosaic.TcCoe Idealize.SL.Sem
open Cert.KernelIdeal Cert.KernelIdeal.Gen

namespace Cert.Mix

/-- What one grid point works on: its rows, the weights and tables, and what it is handed by the point before. -/
structure Blk where
  X : ℕ → ℕ → ℕ → EReal
  XS : ℕ → ℕ → EReal
  g1 : ℕ → ℕ → EReal
  W : ℕ → ℕ → EReal
  cos : ℕ → ℕ → EReal
  sin : ℕ → ℕ → EReal
  qd : ℕ → ℕ → EReal
  kd : ℕ → ℕ → EReal
  cd : ℕ → ℕ → EReal
  dm : ℕ → ℕ → ℕ → EReal
  gg : ℕ → ℕ → EReal
  gb : ℕ → ℕ → EReal
  wo : ℕ → ℕ → ℕ → EReal
  S0 : ℕ → ℕ → ℕ → EReal
  U0 : ℕ → ℕ → EReal
  pos : ℕ

/-- A row divided by its root mean square, times the gain. -/
def rmsN (x g : ℕ → EReal) (l : ℕ) : EReal :=
  x l * Ideal.rsqrt (Ideal.div (∑ k : Fin 1024, x k * x k) (Ideal.ofBits .f32 0x44800000#32) + Ideal.ofBits .f32 0x358637BD#32)
    * g l

namespace Blk
variable (B : Blk)

/-- The normed prompt rows. -/
def H (r k : ℕ) : EReal := rmsN (B.X 0 r) (B.g1 1) k

/-- The normed rows, the sample's after the first 384 of the prompt's. -/
def H1 (r k : ℕ) : EReal := if r < 384 then B.H r k else rmsN (B.XS (r - 384)) (B.g1 1) k

/-- The projected rows. -/
def Z (r j : ℕ) : EReal := ∑ k : Fin 1024, B.H r k * B.W k j

/-- The rows rotated by their positions; `lo` is the first column of the part, `l` the column in it. -/
def rot (lo r l : ℕ) : EReal :=
  B.Z r (lo + l) * B.cos r (l % 128) + B.Z r (lo + (128 * (l / 128) + (l % 128 + 64) % 128)) * B.sin r (l % 128)

/-- Queries, decayed by the place in the chunk. -/
def Q (r l : ℕ) : EReal := B.rot 512 r l * B.qd (r % 128) l

/-- Keys, weighted for the state. -/
def KD (r l : ℕ) : EReal := B.rot 1024 r l * B.kd (r % 128) l

/-- Keys, weighted for the scores. -/
def KB (r l : ℕ) : EReal := B.KD r l * Ideal.div (Ideal.ofBits .f32 0x3F800000#32) (B.cd 0 l)

/-- Values. -/
def V (r l : ℕ) : EReal := B.Z r (1536 + l)

/-- Gates. -/
def G (r l : ℕ) : EReal := B.Z r (2048 + l)

/-- The state before chunk `c`, of head `h`. -/
def S : ℕ → ℕ → ℕ → ℕ → EReal
  | 0, h, d, e => B.S0 h d e
  | c + 1, h, d, e => S c h d e * B.cd 0 (128 * h + e) + ∑ j : Fin 128, B.KD (128 * c + j) (128 * h + d) * B.V (128 * c + j) (128 * h + e)

/-- The scores inside chunk `c`. -/
def sc (c h i j : ℕ) : EReal :=
  if Ideal.ofBits .f32 0x00000000#32 < B.dm h i j then ∑ d : Fin 128, B.Q (128 * c + i) (128 * h + d) * B.KB (128 * c + j) (128 * h + d)
  else Ideal.ofBits .f32 0x00000000#32

/-- The output of head `h` in chunk `c`. -/
def O (c h i e : ℕ) : EReal :=
  (∑ j : Fin 128, B.sc c h i j * B.V (128 * c + j) (128 * h + e))
    + ∑ d : Fin 128, B.Q (128 * c + i) (128 * h + d) * B.S c h d e

end Blk

/-- A head's row normed, scaled, shifted and gated. -/
def headN (o gg gb gt : ℕ → EReal) (e : ℕ) : EReal :=
  gt e * Ideal.logistic (gt e) *
    ((o e - Ideal.div (∑ k : Fin 128, o k) (Ideal.ofBits .f32 0x43000000#32))
      * Ideal.rsqrt (Ideal.div (∑ l : Fin 128, (o l - Ideal.div (∑ k : Fin 128, o k) (Ideal.ofBits .f32 0x43000000#32))
          * (o l - Ideal.div (∑ k : Fin 128, o k) (Ideal.ofBits .f32 0x43000000#32))) (Ideal.ofBits .f32 0x43000000#32)
        + Ideal.ofBits .f32 0x3727C5AC#32) * gg e + gb e)

namespace Blk
variable (B : Blk)

/-- The retention half of the mixed rows. -/
def R (r l : ℕ) : EReal :=
  headN (fun e => B.O (r / 128) (l / 128) (r % 128) e) (fun e => B.gg 1 (128 * (l / 128) + e)) (fun e => B.gb 1 (128 * (l / 128) + e))
    (fun e => B.G r (128 * (l / 128) + e)) (l % 128)

/-- The pooled columns with what was carried in before them. -/
def U (y l : ℕ) : EReal := if y < 16 then B.U0 y l else B.Z (y - 16) l

/-- The window of the pool at column `l`. -/
def win (l : ℕ) : ℕ := 2 ^ (l / 128 + 1)

/-- The pool half of the mixed rows. -/
def P (r l : ℕ) : EReal :=
  Ideal.div (∑ k ∈ Finset.range (win l), B.U (16 + r - k) l) (((min (B.pos + r + 1) (win l) : ℕ) : ℝ) : EReal) - B.U (16 + r) l

/-- The mixed rows. -/
def M (r l : ℕ) : EReal := if l < 512 then B.P r l else B.R r (l - 512)

/-- The rows after the first half of the layer. -/
def out (r j : ℕ) : EReal := B.X 0 r j + ∑ k : Fin 1024, B.M r k * B.wo 0 k j

end Blk

/-! ### The tile-sized expressions -/

/-- A 128-square of projected columns, rotated and weighted. -/
def rotV (z c s d : FVec Ideal S128x128 .f32) : FVec Ideal S128x128 .f32 :=
  mulf (addf (mulf z c) (mulf (dynamicRotate 1 64#32 none z rotates_S128x128_d1) s)) d

def qV (z c s d : FVec Ideal S128x128 .f32) : FVec Ideal S128x128 .bf16 :=
  shapeCast S128x128 (truncf .bf16 (rotV z c s d) bitsLt_bf16_f32) shapeCasts_S128x128_S128x128

def kdV (z c s d : FVec Ideal S128x128 .f32) : FVec Ideal S1x128x128 .bf16 :=
  shapeCast S1x128x128 (truncf .bf16 (transpose S128x128 [1, 0] (rotV z c s d) transposes_S128x128_p1_0_S128x128) bitsLt_bf16_f32)
    shapeCasts_S128x128_S1x128x128

def kbV (z c s d : FVec Ideal S128x128 .f32) (w : FVec Ideal S1x128 .f32) : FVec Ideal S1x128x128 .bf16 :=
  shapeCast S1x128x128 (truncf .bf16 (transpose S128x128 [1, 0] (mulf (rotV z c s d)
    (broadcastTo S128x128 (divf (broadcast S1x128 (Scalar.ofBits (F := Ideal) .f32 0x3F800000#32)) w) broadcasts_S1x128_S128x128))
    transposes_S128x128_p1_0_S128x128) bitsLt_bf16_f32) shapeCasts_S128x128_S1x128x128

def scV (q : FVec Ideal S128x128 .bf16) (k : FVec Ideal S1x128x128 .bf16) (m : FVec Ideal S1x128x128 .f32) : FVec Ideal S128x256 .bf16 :=
  concatenate S128x256 1 [⟨S128x128, truncf .bf16 (select (cmpf .ogt (shapeCast S128x128 m shapeCasts_S1x128x128_S128x128)
      (broadcast S128x128 (Scalar.ofBits (F := Ideal) .f32 0x00000000#32)))
    (matmul dot_S128x128_S128x128_S128x128_1_0_0_1_n_n none q (shapeCast S128x128 k shapeCasts_S1x128x128_S128x128)
      (constant S128x128 .f32 0x00000000#32)) (broadcast S128x128 (Scalar.ofBits (F := Ideal) .f32 0x00000000#32))) bitsLt_bf16_f32⟩,
    ⟨S128x128, q⟩] concatenates_S128x128_S128x128_S128x256_d1

def oV (a : FVec Ideal S128x256 .bf16) (v : FVec Ideal S128x128 .bf16) (s : FVec Ideal S1x1x1x128x128 .f32) : FVec Ideal S128x128 .f32 :=
  matmul dot_S128x256_S256x128_S128x128_1_0_0_1_n_n none a (concatenate S256x128 0 [⟨S128x128, v⟩, ⟨S128x128, truncf .bf16
    (k0_pay107 s) bitsLt_bf16_f32⟩] concatenates_S128x128_S128x128_S256x128_d0) (constant S128x128 .f32 0x00000000#32)

/-- One step of the state of a head. -/
def stV (s : FVec Ideal S1x1x1x128x128 .f32) (v : FVec Ideal S128x128 .bf16) (w : FVec Ideal S1x128 .f32) (k : FVec Ideal S1x128x128 .bf16) :
    FVec Ideal S1x1x1x128x128 .f32 :=
  shapeCast S1x1x1x128x128 (addf (mulf (k0_pay107 s) (broadcastTo S128x128 w broadcasts_S1x128_S128x128))
    (matmul dot_S128x128_S128x128_S128x128_1_0_0_1_n_n none (shapeCast S128x128 k shapeCasts_S1x128x128_S128x128) v
      (constant S128x128 .f32 0x00000000#32))) shapeCasts_S128x128_S1x1x1x128x128

/-- A head's rows normed, scaled, shifted and gated. -/
def rV (o gt : FVec Ideal S128x128 .f32) (gg gb : FVec Ideal S1x128 .f32) : FVec Ideal S128x128 .bf16 :=
  k0_pay137 gt gg gb (k0_pay134 o) (k0_pay135 o) k0_pay136

/-- A row's sum with the row before it, with the two before it, and so on: windows of 2, 4, 8 and 16 rows. -/
def a2 (u : FVec Ideal S400x128 .f32) : FVec Ideal S400x128 .f32 := addf u (dynamicRotate 0 1#32 none u rotates_S400x128_d0)
def a4 (u : FVec Ideal S400x128 .f32) : FVec Ideal S400x128 .f32 := addf (a2 u) (dynamicRotate 0 2#32 none (a2 u) rotates_S400x128_d0)
def a8 (u : FVec Ideal S400x128 .f32) : FVec Ideal S400x128 .f32 := addf (a4 u) (dynamicRotate 0 4#32 none (a4 u) rotates_S400x128_d0)
def a16 (u : FVec Ideal S400x128 .f32) : FVec Ideal S400x128 .f32 := addf (a8 u) (dynamicRotate 0 8#32 none (a8 u) rotates_S400x128_d0)
def b2 (u : FVec Ideal S656x128 .f32) : FVec Ideal S656x128 .f32 := addf u (dynamicRotate 0 1#32 none u rotates_S656x128_d0)
def b4 (u : FVec Ideal S656x128 .f32) : FVec Ideal S656x128 .f32 := addf (b2 u) (dynamicRotate 0 2#32 none (b2 u) rotates_S656x128_d0)
def b8 (u : FVec Ideal S656x128 .f32) : FVec Ideal S656x128 .f32 := addf (b4 u) (dynamicRotate 0 4#32 none (b4 u) rotates_S656x128_d0)
def b16 (u : FVec Ideal S656x128 .f32) : FVec Ideal S656x128 .f32 := addf (b8 u) (dynamicRotate 0 8#32 none (b8 u) rotates_S656x128_d0)

/-- The window sums `s` of the rows `u` divided by the number of rows in them, less the rows: the first 384 rows. -/
def poolA (t w : BitVec 32) (u s : FVec Ideal S400x128 .f32) : FVec Ideal S384x128 .bf16 :=
  shapeCast S384x128 (truncf .bf16 (subf (divf (extractStridedSlice S384x128 ![16, 0] s slices_S400x128_o16_0_S384x128)
    (broadcastTo S384x128 (sitofp .f32 (minsi (addi (addi (broadcast S384x1 (Scalar.addi (Scalar.muli t 1024#32) 0#32))
      (iota .tc S384x1 32 [0] iota_S384x1_d0_w32)) (broadcast S384x1 1#32)) (broadcast S384x1 w))) broadcasts_S384x1_S384x128))
    (extractStridedSlice S384x128 ![16, 0] u slices_S400x128_o16_0_S384x128)) bitsLt_bf16_f32) shapeCasts_S384x128_S384x128

/-- The same for the other 640 rows. -/
def poolB (t w : BitVec 32) (u s : FVec Ideal S656x128 .f32) : FVec Ideal S640x128 .bf16 :=
  shapeCast S640x128 (truncf .bf16 (subf (divf (extractStridedSlice S640x128 ![16, 0] s slices_S656x128_o16_0_S640x128)
    (broadcastTo S640x128 (sitofp .f32 (minsi (addi (addi (broadcast S640x1 (Scalar.addi (Scalar.muli t 1024#32) 384#32))
      (iota .tc S640x1 32 [0] iota_S640x1_d0_w32)) (broadcast S640x1 1#32)) (broadcast S640x1 w))) broadcasts_S640x1_S640x128))
    (extractStridedSlice S640x128 ![16, 0] u slices_S656x128_o16_0_S640x128)) bitsLt_bf16_f32) shapeCasts_S640x128_S640x128

/-! ### What they hold -/

section at_
variable {B : Blk}

theorem eq_at {n m : ℕ} {f : (⟨2, ![n, m]⟩ : Shape).Idx → EReal} {g : ℕ → ℕ → EReal} (h : ∀ (i : Fin n) (j : Fin m), f (ix2 i j) = g i j) :
    f = fun j => g (j 0).val (j 1).val := by
  funext j; exact (congrArg f (eq_ix2 j)).trans (h _ _)

theorem at2 {n m : ℕ} {f : (⟨2, ![n, m]⟩ : Shape).Idx → EReal} {g : ℕ → ℕ → EReal} (h : ∀ (i : Fin n) (j : Fin m), f (ix2 i j) = g i j)
    (j : (⟨2, ![n, m]⟩ : Shape).Idx) : f j = g (j 0).val (j 1).val := congrFun (eq_at h) j

theorem at3 {n m : ℕ} {f : (⟨3, ![1, n, m]⟩ : Shape).Idx → EReal} {g : ℕ → ℕ → EReal} (h : ∀ (i : Fin n) (j : Fin m), f (ix3 0 i j) = g i j)
    (j : (⟨3, ![1, n, m]⟩ : Shape).Idx) : f j = g (j 1).val (j 2).val := by
  have h0 : j 0 = (0 : Fin 1) := Subsingleton.elim (α := Fin 1) _ _
  exact (congrArg f ((eq_ix3 j).trans (by rw [h0]))).trans (h _ _)

/-- The products of the first 448 rows: those of the prompt. -/
theorem z448 (h : FVec Ideal S448x1024 .bf16) (w : FVec Ideal S1024x256 .bf16) {lo a b : ℕ}
    {sl : S384x256.Slices ![a, b] S128x128}
    (hh : h = fun j => B.H1 (0 + (j 0).val) (0 + (j 1).val)) (hw : w = fun j => B.W (0 + (j 0).val) (lo + (j 1).val)) (ha : a + 128 ≤ 384) (hb : b + 128 ≤ 256) :
    extractStridedSlice S128x128 ![a, b] (extractStridedSlice S384x256 ![0, 0] (matmul dot_S448x1024_S1024x256_S448x256_1_0_0_1_n_n none h w
      (constant S448x256 .f32 0x00000000#32)) slices_S448x256_o0_0_S384x256) sl
      = fun j => B.Z (a + (j 0).val) (lo + b + (j 1).val) := by
  subst hh hw
  refine eq_at (g := fun i j => B.Z (a + i) (lo + b + j)) fun i j => ?_
  pointwise
  simp only [Blk.Z, Blk.H1, if_pos (show a + i.val < 384 by omega), Nat.add_assoc]

/-- The products of the other 640 rows. -/
theorem z640 (h : FVec Ideal S640x1024 .bf16) (w : FVec Ideal S1024x256 .bf16) {lo a b : ℕ}
    {sl : S640x256.Slices ![a, b] S128x128}
    (hh : h = fun j => B.H (384 + (j 0).val) (0 + (j 1).val)) (hw : w = fun j => B.W (0 + (j 0).val) (lo + (j 1).val)) (ha : a + 128 ≤ 640) (hb : b + 128 ≤ 256) :
    extractStridedSlice S128x128 ![a, b] (matmul dot_S640x1024_S1024x256_S640x256_1_0_0_1_n_n none h w
      (constant S640x256 .f32 0x00000000#32)) sl
      = fun j => B.Z (384 + a + (j 0).val) (lo + b + (j 1).val) := by
  subst hh hw
  refine eq_at (g := fun i j => B.Z (384 + a + i) (lo + b + j)) fun i j => ?_
  pointwise
  simp only [Blk.Z, Nat.add_assoc]

theorem y448 (h : FVec Ideal S448x1024 .bf16) (w : FVec Ideal S1024x256 .bf16) {lo : ℕ}
    (hh : h = fun j => B.H1 (0 + (j 0).val) (0 + (j 1).val)) (hw : w = fun j => B.W (0 + (j 0).val) (lo + (j 1).val)) (j : S384x256.Idx) :
    extractStridedSlice S384x256 ![0, 0] (matmul dot_S448x1024_S1024x256_S448x256_1_0_0_1_n_n none h w
      (constant S448x256 .f32 0x00000000#32)) slices_S448x256_o0_0_S384x256 j
      = B.Z (j 0).val (lo + (j 1).val) := by
  subst hh hw
  refine at2 (g := fun i j => B.Z i (lo + j)) (fun i j => ?_) j
  pointwise
  simp only [Blk.Z, Blk.H1, if_pos (show i.val < 384 by omega)]

theorem y640 (h : FVec Ideal S640x1024 .bf16) (w : FVec Ideal S1024x256 .bf16) {lo : ℕ}
    (hh : h = fun j => B.H (384 + (j 0).val) (0 + (j 1).val)) (hw : w = fun j => B.W (0 + (j 0).val) (lo + (j 1).val)) (j : S640x256.Idx) :
    matmul dot_S640x1024_S1024x256_S640x256_1_0_0_1_n_n none h w (constant S640x256 .f32 0x00000000#32) j
      = B.Z (384 + (j 0).val) (lo + (j 1).val) := by
  subst hh hw
  refine at2 (g := fun i j => B.Z (384 + i) (lo + j)) (fun i j => ?_) j
  pointwise
  simp only [Blk.Z]

theorem h384 (a : FVec Ideal S1x384x1024 .f32) (g : FVec Ideal S1x1024 .f32)
    (ha : a = fun j => B.X (0 + (j 0).val) (0 + (j 1).val) (0 + (j 2).val)) (hg : g = fun j => B.g1 (1 + (j 0).val) (0 + (j 1).val)) (j : S384x1024.Idx) :
    k0_pay5 (F := Ideal) a g j = B.H1 (0 + (j 0).val) (0 + (j 1).val) := by
  subst ha hg
  refine at2 (g := fun i j => B.H1 (0 + i) (0 + j)) (fun i j => ?_) j
  pointwise [k0_pay5, Blk.H1, rmsN, Blk.H, i.isLt]

theorem h64 (a : FVec Ideal S64x1024 .f32) (g : FVec Ideal S1x1024 .f32)
    (ha : a = fun j => B.XS (0 + (j 0).val) (0 + (j 1).val)) (hg : g = fun j => B.g1 (1 + (j 0).val) (0 + (j 1).val)) (j : S64x1024.Idx) :
    k0_pay7 (F := Ideal) (k0_pay6 (F := Ideal) a g) j = B.H1 (384 + (j 0).val) (0 + (j 1).val) := by
  subst ha hg
  refine at2 (g := fun i j => B.H1 (384 + i) (0 + j)) (fun i j => ?_) j
  pointwise [k0_pay7, k0_pay6, Blk.H1, rmsN, Blk.H]

theorem h640 (a : FVec Ideal S1x640x1024 .f32) (g : FVec Ideal S1x1024 .f32)
    (ha : a = fun j => B.X (0 + (j 0).val) (384 + (j 1).val) (0 + (j 2).val)) (hg : g = fun j => B.g1 (1 + (j 0).val) (0 + (j 1).val)) :
    k0_pay104 (F := Ideal) a g = fun j => B.H (384 + (j 0).val) (0 + (j 1).val) := by
  subst ha hg
  refine eq_at (g := fun i j => B.H (384 + i) (0 + j)) fun i j => ?_
  pointwise [k0_pay104, rmsN, Blk.H]

variable {z cc ss dd : FVec Ideal S128x128 .f32} (c h : ℕ)

theorem rotV_at (lo : ℕ) (g : ℕ → ℕ → EReal) (hh : h < 4) (hz : z = fun j => B.Z (128 * c + (j 0).val) (lo + 128 * h + (j 1).val))
    (hc : cc = fun j => B.cos (128 * c + (j 0).val) (0 + (j 1).val)) (hs : ss = fun j => B.sin (128 * c + (j 0).val) (0 + (j 1).val))
    (hd : dd = fun j => g (0 + (j 0).val) (128 * h + (j 1).val)) (i j : Fin 128) :
    rotV z cc ss dd (ix2 i j) = B.rot lo (128 * c + i) (128 * h + j) * g ((128 * c + i) % 128) (128 * h + j) := by
  subst hz hc hs hd
  pointwise [rotV, Blk.rot]
  have e1 : (128 * h + j.val) % 128 = j := by omega
  have e2 : (128 * h + j.val) / 128 = h := by omega
  have e3 : (128 * c + i.val) % 128 = i := by omega
  have e4 : (j.val + 128 - 64) % 128 = (j.val + 64) % 128 := by omega
  simp only [e1, e2, e3, e4, Nat.add_assoc]

theorem q_at (hh : h < 4) (hz : z = fun j => B.Z (128 * c + (j 0).val) (512 + 128 * h + (j 1).val))
    (hc : cc = fun j => B.cos (128 * c + (j 0).val) (0 + (j 1).val)) (hs : ss = fun j => B.sin (128 * c + (j 0).val) (0 + (j 1).val))
    (hd : dd = fun j => B.qd (0 + (j 0).val) (128 * h + (j 1).val)) (x : S128x128.Idx) :
    qV z cc ss dd x = B.Q (128 * c + (x 0).val) (128 * h + (x 1).val) := by
  refine at2 (g := fun i j => B.Q (128 * c + i) (128 * h + j)) (fun i j => ?_) x
  pointwise [qV]
  exact rotV_at c h 512 B.qd hh hz hc hs hd i j

theorem kd_at (hh : h < 4) (hz : z = fun j => B.Z (128 * c + (j 0).val) (1024 + 128 * h + (j 1).val))
    (hc : cc = fun j => B.cos (128 * c + (j 0).val) (0 + (j 1).val)) (hs : ss = fun j => B.sin (128 * c + (j 0).val) (0 + (j 1).val))
    (hd : dd = fun j => B.kd (0 + (j 0).val) (128 * h + (j 1).val)) (x : S1x128x128.Idx) :
    kdV z cc ss dd x = B.KD (128 * c + (x 2).val) (128 * h + (x 1).val) := by
  refine at3 (g := fun d j => B.KD (128 * c + j) (128 * h + d)) (fun d j => ?_) x
  pointwise [kdV]
  exact rotV_at c h 1024 B.kd hh hz hc hs hd j d

theorem kb_at (hh : h < 4) {w : FVec Ideal S1x128 .f32} (hz : z = fun j => B.Z (128 * c + (j 0).val) (1024 + 128 * h + (j 1).val))
    (hc : cc = fun j => B.cos (128 * c + (j 0).val) (0 + (j 1).val)) (hs : ss = fun j => B.sin (128 * c + (j 0).val) (0 + (j 1).val))
    (hd : dd = fun j => B.kd (0 + (j 0).val) (128 * h + (j 1).val)) (hw : w = fun j => B.cd (0 + (j 0).val) (128 * h + (j 1).val)) (x : S1x128x128.Idx) :
    kbV z cc ss dd w x = B.KB (128 * c + (x 2).val) (128 * h + (x 1).val) := by
  refine at3 (g := fun d j => B.KB (128 * c + j) (128 * h + d)) (fun d j => ?_) x
  subst hw
  pointwise [kbV, Blk.KB, Blk.KD]
  rw [rotV_at c h 1024 B.kd hh hz hc hs hd j d]

variable {q : FVec Ideal S128x128 .bf16} {k : FVec Ideal S1x128x128 .bf16} {m : FVec Ideal S1x128x128 .f32} {v : FVec Ideal S128x128 .bf16}
  {s : FVec Ideal S1x1x1x128x128 .f32} {gt : FVec Ideal S128x128 .f32} {gg gb w : FVec Ideal S1x128 .f32}

theorem o_at (hq : q = fun j => B.Q (128 * c + (j 0).val) (128 * h + (j 1).val)) (hk : k = fun j => B.KB (128 * c + (j 2).val) (128 * h + (j 1).val))
    (hm : m = fun j => B.dm (h + (j 0).val) (0 + (j 1).val) (0 + (j 2).val)) (hv : v = fun j => B.V (128 * c + (j 0).val) (128 * h + (j 1).val))
    (hs : s = fun j => B.S c h (j 3).val (j 4).val) (i e : Fin 128) :
    oV (scV q k m) v s (ix2 i e) = B.O c h i e := by
  subst hq hk hm hv hs
  pointwise [oV, scV, k0_pay107, Blk.O, Blk.sc]

theorem st_at (hk : k = fun j => B.KD (128 * c + (j 2).val) (128 * h + (j 1).val)) (hv : v = fun j => B.V (128 * c + (j 0).val) (128 * h + (j 1).val))
    (hs : s = fun j => B.S c h (j 3).val (j 4).val) (hw : w = fun j => B.cd (0 + (j 0).val) (128 * h + (j 1).val)) (x : S1x1x1x128x128.Idx) :
    stV s v w k x = B.S (c + 1) h (x 3).val (x 4).val := by
  subst hk hv hs hw
  have h0 : x 0 = (0 : Fin 1) := Subsingleton.elim (α := Fin 1) _ _
  have h1 : x 1 = (0 : Fin 1) := Subsingleton.elim (α := Fin 1) _ _
  have h2 : x 2 = (0 : Fin 1) := Subsingleton.elim (α := Fin 1) _ _
  obtain ⟨d, hd⟩ : ∃ d : Fin 128, d = x 3 := ⟨_, rfl⟩
  obtain ⟨e, he⟩ : ∃ d : Fin 128, d = x 4 := ⟨_, rfl⟩
  rw [← hd, ← he, show x = ix5 0 0 0 d e by rw [eq_ix5 x, h0, h1, h2, ← hd, ← he]]
  pointwise [stV, k0_pay107, Blk.S]

theorem r_at (hh : h < 4) (hq : q = fun j => B.Q (128 * c + (j 0).val) (128 * h + (j 1).val)) (hk : k = fun j => B.KB (128 * c + (j 2).val) (128 * h + (j 1).val))
    (hm : m = fun j => B.dm (h + (j 0).val) (0 + (j 1).val) (0 + (j 2).val)) (hv : v = fun j => B.V (128 * c + (j 0).val) (128 * h + (j 1).val))
    (hs : s = fun j => B.S c h (j 3).val (j 4).val) (hgt : gt = fun j => B.G (128 * c + (j 0).val) (128 * h + (j 1).val))
    (hgg : gg = fun j => B.gg (1 + (j 0).val) (128 * h + (j 1).val)) (hgb : gb = fun j => B.gb (1 + (j 0).val) (128 * h + (j 1).val)) (x : S128x128.Idx) :
    rV (oV (scV q k m) v s) gt gg gb x = B.R (128 * c + (x 0).val) (128 * h + (x 1).val) := by
  refine at2 (g := fun i j => B.R (128 * c + i) (128 * h + j)) (fun i e => ?_) x
  have e1 : (128 * h + e.val) % 128 = e := by omega
  have e2 : (128 * h + e.val) / 128 = h := by omega
  have e3 : (128 * c + i.val) % 128 = i := by omega
  have e4 : (128 * c + i.val) / 128 = c := by omega
  have ho : ∀ e : Fin 128, oV (scV q k m) v s (ix2 i e) = B.O c h i e := fun e => o_at c h hq hk hm hv hs i e
  subst hgt hgg hgb
  pointwise [rV, k0_pay137, k0_pay134, k0_pay135, k0_pay136, Blk.R, headN, ho]
  simp only [e1, e2, e3, e4]

/-- The number of rows in a window, counted in machine integers. -/
theorem cnt (t a r w : ℕ) (ht : t < 2) (ha : a < 1024) (hr : r < 1024) (hw : w < 1024) :
    FloatOps.sitofp (F := Ideal) FTy.f32 (IntOp.minsi (IntOp.addi (IntOp.addi (Scalar.addi (Scalar.muli (BitVec.ofNat 32 t) 1024#32) (BitVec.ofNat 32 a))
      (BitVec.ofNat 32 r)) 1#32) (BitVec.ofNat 32 w)) = (((min (1024 * t + (a + r) + 1) w : ℕ) : ℝ) : EReal) := by
  have e : IntOp.addi (IntOp.addi (Scalar.addi (Scalar.muli (BitVec.ofNat 32 t) 1024#32) (BitVec.ofNat 32 a)) (BitVec.ofNat 32 r)) 1#32
      = BitVec.ofNat 32 (1024 * t + (a + r) + 1) := by
    simp only [IntOp.addi, Scalar.addi, Scalar.muli, IntOp.muli]
    apply BitVec.eq_of_toNat_eq
    simp only [BitVec.toNat_add, BitVec.toNat_mul, BitVec.toNat_ofNat]
    omega
  have hi : ∀ n : ℕ, n < 4096 → (BitVec.ofNat 32 n).toInt = n := fun n hn => by
    rw [BitVec.toInt_eq_toNat_of_lt (by simp only [BitVec.toNat_ofNat]; omega)]
    simp only [BitVec.toNat_ofNat]; omega
  have hm : ∀ n m : ℕ, n < 4096 → m < 4096 → (IntOp.minsi (BitVec.ofNat 32 n) (BitVec.ofNat 32 m)).toInt = ((min n m : ℕ) : ℤ) := fun n m hn hm => by
    unfold IntOp.minsi
    rw [BitVec.slt, hi n hn, hi m hm]
    by_cases h : (n : ℤ) < m
    · rw [if_pos (by simpa using h), hi n hn]; omega
    · rw [if_neg (by simpa using h), hi m hm]; omega
  rw [e]
  show (((BitVec.toInt _ : ℤ) : ℝ) : EReal) = _
  rw [hm _ _ (by omega) (by omega), Int.cast_natCast]

theorem a2_at {u : FVec Ideal S400x128 .f32} {f : ℕ → ℕ → EReal} (hu : ∀ (R : Fin 400) (l : Fin 128), u (ix2 R l) = f R l) (R : Fin 400) (l : Fin 128)
    (hR : 1 ≤ R.val) : a2 u (ix2 R l) = ∑ k ∈ Finset.range 2, f (R.val - k) l := by
  have e : (R.val + 400 - 1) % 400 = R.val - 1 := by omega
  pointwise [a2, hu, e]
  simp only [Finset.sum_range_succ, Finset.sum_range_zero, zero_add, Nat.sub_zero]

theorem a4_at {u : FVec Ideal S400x128 .f32} {f : ℕ → ℕ → EReal} (hu : ∀ (R : Fin 400) (l : Fin 128), u (ix2 R l) = f R l) (R : Fin 400) (l : Fin 128)
    (hR : 3 ≤ R.val) : a4 u (ix2 R l) = ∑ k ∈ Finset.range 4, f (R.val - k) l := by
  have e : (R.val + 400 - 2) % 400 = R.val - 2 := by omega
  have h0 := a2_at hu R l (by omega)
  have h1 := a2_at hu ⟨R.val - 2, by omega⟩ l (by show 1 ≤ R.val - 2; omega)
  rw [Finset.sum_range_add (fun k => f (R.val - k) l) 2 2]
  pointwise [a4, e]
  rw [h0, h1]
  simp only [Nat.sub_sub]

theorem a8_at {u : FVec Ideal S400x128 .f32} {f : ℕ → ℕ → EReal} (hu : ∀ (R : Fin 400) (l : Fin 128), u (ix2 R l) = f R l) (R : Fin 400) (l : Fin 128)
    (hR : 7 ≤ R.val) : a8 u (ix2 R l) = ∑ k ∈ Finset.range 8, f (R.val - k) l := by
  have e : (R.val + 400 - 4) % 400 = R.val - 4 := by omega
  have h0 := a4_at hu R l (by omega)
  have h1 := a4_at hu ⟨R.val - 4, by omega⟩ l (by show 3 ≤ R.val - 4; omega)
  rw [Finset.sum_range_add (fun k => f (R.val - k) l) 4 4]
  pointwise [a8, e]
  rw [h0, h1]
  simp only [Nat.sub_sub]

theorem a16_at {u : FVec Ideal S400x128 .f32} {f : ℕ → ℕ → EReal} (hu : ∀ (R : Fin 400) (l : Fin 128), u (ix2 R l) = f R l) (R : Fin 400) (l : Fin 128)
    (hR : 15 ≤ R.val) : a16 u (ix2 R l) = ∑ k ∈ Finset.range 16, f (R.val - k) l := by
  have e : (R.val + 400 - 8) % 400 = R.val - 8 := by omega
  have h0 := a8_at hu R l (by omega)
  have h1 := a8_at hu ⟨R.val - 8, by omega⟩ l (by show 7 ≤ R.val - 8; omega)
  rw [Finset.sum_range_add (fun k => f (R.val - k) l) 8 8]
  pointwise [a16, e]
  rw [h0, h1]
  simp only [Nat.sub_sub]

theorem b2_at {u : FVec Ideal S656x128 .f32} {f : ℕ → ℕ → EReal} (hu : ∀ (R : Fin 656) (l : Fin 128), u (ix2 R l) = f R l) (R : Fin 656) (l : Fin 128)
    (hR : 1 ≤ R.val) : b2 u (ix2 R l) = ∑ k ∈ Finset.range 2, f (R.val - k) l := by
  have e : (R.val + 656 - 1) % 656 = R.val - 1 := by omega
  pointwise [b2, hu, e]
  simp only [Finset.sum_range_succ, Finset.sum_range_zero, zero_add, Nat.sub_zero]

theorem b4_at {u : FVec Ideal S656x128 .f32} {f : ℕ → ℕ → EReal} (hu : ∀ (R : Fin 656) (l : Fin 128), u (ix2 R l) = f R l) (R : Fin 656) (l : Fin 128)
    (hR : 3 ≤ R.val) : b4 u (ix2 R l) = ∑ k ∈ Finset.range 4, f (R.val - k) l := by
  have e : (R.val + 656 - 2) % 656 = R.val - 2 := by omega
  have h0 := b2_at hu R l (by omega)
  have h1 := b2_at hu ⟨R.val - 2, by omega⟩ l (by show 1 ≤ R.val - 2; omega)
  rw [Finset.sum_range_add (fun k => f (R.val - k) l) 2 2]
  pointwise [b4, e]
  rw [h0, h1]
  simp only [Nat.sub_sub]

theorem b8_at {u : FVec Ideal S656x128 .f32} {f : ℕ → ℕ → EReal} (hu : ∀ (R : Fin 656) (l : Fin 128), u (ix2 R l) = f R l) (R : Fin 656) (l : Fin 128)
    (hR : 7 ≤ R.val) : b8 u (ix2 R l) = ∑ k ∈ Finset.range 8, f (R.val - k) l := by
  have e : (R.val + 656 - 4) % 656 = R.val - 4 := by omega
  have h0 := b4_at hu R l (by omega)
  have h1 := b4_at hu ⟨R.val - 4, by omega⟩ l (by show 3 ≤ R.val - 4; omega)
  rw [Finset.sum_range_add (fun k => f (R.val - k) l) 4 4]
  pointwise [b8, e]
  rw [h0, h1]
  simp only [Nat.sub_sub]

theorem b16_at {u : FVec Ideal S656x128 .f32} {f : ℕ → ℕ → EReal} (hu : ∀ (R : Fin 656) (l : Fin 128), u (ix2 R l) = f R l) (R : Fin 656) (l : Fin 128)
    (hR : 15 ≤ R.val) : b16 u (ix2 R l) = ∑ k ∈ Finset.range 16, f (R.val - k) l := by
  have e : (R.val + 656 - 8) % 656 = R.val - 8 := by omega
  have h0 := b8_at hu R l (by omega)
  have h1 := b8_at hu ⟨R.val - 8, by omega⟩ l (by show 7 ≤ R.val - 8; omega)
  rw [Finset.sum_range_add (fun k => f (R.val - k) l) 8 8]
  pointwise [b16, e]
  rw [h0, h1]
  simp only [Nat.sub_sub]

theorem pA2 (t : Fin 2) (hp : B.pos = 1024 * t) {u : FVec Ideal S400x128 .f32} (hu : u = fun j => B.U (0 + (j 0).val) (0 + (j 1).val)) (x : S384x128.Idx) :
    poolA (BitVec.ofNat 32 t) 2#32 u (a2 u) x = B.P (0 + (x 0).val) (0 + (x 1).val) := by
  refine at2 (g := fun i j => B.P (0 + i) (0 + j)) (fun r l => ?_) x
  have hw : Blk.win (0 + l.val) = 2 := by rw [Blk.win, show (0 + l.val) / 128 = 0 by omega]; rfl
  have ha := a2_at (u := u) (f := fun i j => B.U (0 + i) (0 + j)) (fun R l => by subst hu; rfl) ⟨16 + r.val, by omega⟩ l (by show 1 ≤ 16 + r.val; omega)
  have hc := cnt t.val 0 r.val 2 t.isLt (by omega) (by omega) (by omega)
  subst hu
  generalize a2 _ = S at ha ⊢
  pointwise [poolA, Blk.P]
  try simp only [Nat.zero_add] at hw ha hc
  rw [hc, ha, hw, hp]

theorem pA4 (t : Fin 2) (hp : B.pos = 1024 * t) {u : FVec Ideal S400x128 .f32} (hu : u = fun j => B.U (0 + (j 0).val) (128 + (j 1).val)) (x : S384x128.Idx) :
    poolA (BitVec.ofNat 32 t) 4#32 u (a4 u) x = B.P (0 + (x 0).val) (128 + (x 1).val) := by
  refine at2 (g := fun i j => B.P (0 + i) (128 + j)) (fun r l => ?_) x
  have hw : Blk.win (128 + l.val) = 4 := by rw [Blk.win, show (128 + l.val) / 128 = 1 by omega]; rfl
  have ha := a4_at (u := u) (f := fun i j => B.U (0 + i) (128 + j)) (fun R l => by subst hu; rfl) ⟨16 + r.val, by omega⟩ l (by show 3 ≤ 16 + r.val; omega)
  have hc := cnt t.val 0 r.val 4 t.isLt (by omega) (by omega) (by omega)
  subst hu
  generalize a4 _ = S at ha ⊢
  pointwise [poolA, Blk.P]
  try simp only [Nat.zero_add] at hw ha hc
  rw [hc, ha, hw, hp]

theorem pA8 (t : Fin 2) (hp : B.pos = 1024 * t) {u : FVec Ideal S400x128 .f32} (hu : u = fun j => B.U (0 + (j 0).val) (256 + (j 1).val)) (x : S384x128.Idx) :
    poolA (BitVec.ofNat 32 t) 8#32 u (a8 u) x = B.P (0 + (x 0).val) (256 + (x 1).val) := by
  refine at2 (g := fun i j => B.P (0 + i) (256 + j)) (fun r l => ?_) x
  have hw : Blk.win (256 + l.val) = 8 := by rw [Blk.win, show (256 + l.val) / 128 = 2 by omega]; rfl
  have ha := a8_at (u := u) (f := fun i j => B.U (0 + i) (256 + j)) (fun R l => by subst hu; rfl) ⟨16 + r.val, by omega⟩ l (by show 7 ≤ 16 + r.val; omega)
  have hc := cnt t.val 0 r.val 8 t.isLt (by omega) (by omega) (by omega)
  subst hu
  generalize a8 _ = S at ha ⊢
  pointwise [poolA, Blk.P]
  try simp only [Nat.zero_add] at hw ha hc
  rw [hc, ha, hw, hp]

theorem pA16 (t : Fin 2) (hp : B.pos = 1024 * t) {u : FVec Ideal S400x128 .f32} (hu : u = fun j => B.U (0 + (j 0).val) (384 + (j 1).val)) (x : S384x128.Idx) :
    poolA (BitVec.ofNat 32 t) 16#32 u (a16 u) x = B.P (0 + (x 0).val) (384 + (x 1).val) := by
  refine at2 (g := fun i j => B.P (0 + i) (384 + j)) (fun r l => ?_) x
  have hw : Blk.win (384 + l.val) = 16 := by rw [Blk.win, show (384 + l.val) / 128 = 3 by omega]; rfl
  have ha := a16_at (u := u) (f := fun i j => B.U (0 + i) (384 + j)) (fun R l => by subst hu; rfl) ⟨16 + r.val, by omega⟩ l (by show 15 ≤ 16 + r.val; omega)
  have hc := cnt t.val 0 r.val 16 t.isLt (by omega) (by omega) (by omega)
  subst hu
  generalize a16 _ = S at ha ⊢
  pointwise [poolA, Blk.P]
  try simp only [Nat.zero_add] at hw ha hc
  rw [hc, ha, hw, hp]

theorem pB2 (t : Fin 2) (hp : B.pos = 1024 * t) {u : FVec Ideal S656x128 .f32} (hu : u = fun j => B.U (384 + (j 0).val) (0 + (j 1).val)) (x : S640x128.Idx) :
    poolB (BitVec.ofNat 32 t) 2#32 u (b2 u) x = B.P (384 + (x 0).val) (0 + (x 1).val) := by
  refine at2 (g := fun i j => B.P (384 + i) (0 + j)) (fun r l => ?_) x
  have hw : Blk.win (0 + l.val) = 2 := by rw [Blk.win, show (0 + l.val) / 128 = 0 by omega]; rfl
  have ha := b2_at (u := u) (f := fun i j => B.U (384 + i) (0 + j)) (fun R l => by subst hu; rfl) ⟨16 + r.val, by omega⟩ l (by show 1 ≤ 16 + r.val; omega)
  have hc := cnt t.val 384 r.val 2 t.isLt (by omega) (by omega) (by omega)
  subst hu
  generalize b2 _ = S at ha ⊢
  pointwise [poolB, Blk.P]
  try simp only [Nat.zero_add] at hw ha hc
  rw [hc, ha, hw, hp]
  rw [show 384 + (16 + r.val) = 16 + (384 + r.val) by omega]
  refine congrArg (fun s => Ideal.div s _ - _) (Finset.sum_congr rfl fun k hk => congrArg (fun y => B.U y _) ?_)
  have := Finset.mem_range.mp hk
  show 384 + (16 + r.val - k) = _
  omega

theorem pB4 (t : Fin 2) (hp : B.pos = 1024 * t) {u : FVec Ideal S656x128 .f32} (hu : u = fun j => B.U (384 + (j 0).val) (128 + (j 1).val)) (x : S640x128.Idx) :
    poolB (BitVec.ofNat 32 t) 4#32 u (b4 u) x = B.P (384 + (x 0).val) (128 + (x 1).val) := by
  refine at2 (g := fun i j => B.P (384 + i) (128 + j)) (fun r l => ?_) x
  have hw : Blk.win (128 + l.val) = 4 := by rw [Blk.win, show (128 + l.val) / 128 = 1 by omega]; rfl
  have ha := b4_at (u := u) (f := fun i j => B.U (384 + i) (128 + j)) (fun R l => by subst hu; rfl) ⟨16 + r.val, by omega⟩ l (by show 3 ≤ 16 + r.val; omega)
  have hc := cnt t.val 384 r.val 4 t.isLt (by omega) (by omega) (by omega)
  subst hu
  generalize b4 _ = S at ha ⊢
  pointwise [poolB, Blk.P]
  try simp only [Nat.zero_add] at hw ha hc
  rw [hc, ha, hw, hp]
  rw [show 384 + (16 + r.val) = 16 + (384 + r.val) by omega]
  refine congrArg (fun s => Ideal.div s _ - _) (Finset.sum_congr rfl fun k hk => congrArg (fun y => B.U y _) ?_)
  have := Finset.mem_range.mp hk
  show 384 + (16 + r.val - k) = _
  omega

theorem pB8 (t : Fin 2) (hp : B.pos = 1024 * t) {u : FVec Ideal S656x128 .f32} (hu : u = fun j => B.U (384 + (j 0).val) (256 + (j 1).val)) (x : S640x128.Idx) :
    poolB (BitVec.ofNat 32 t) 8#32 u (b8 u) x = B.P (384 + (x 0).val) (256 + (x 1).val) := by
  refine at2 (g := fun i j => B.P (384 + i) (256 + j)) (fun r l => ?_) x
  have hw : Blk.win (256 + l.val) = 8 := by rw [Blk.win, show (256 + l.val) / 128 = 2 by omega]; rfl
  have ha := b8_at (u := u) (f := fun i j => B.U (384 + i) (256 + j)) (fun R l => by subst hu; rfl) ⟨16 + r.val, by omega⟩ l (by show 7 ≤ 16 + r.val; omega)
  have hc := cnt t.val 384 r.val 8 t.isLt (by omega) (by omega) (by omega)
  subst hu
  generalize b8 _ = S at ha ⊢
  pointwise [poolB, Blk.P]
  try simp only [Nat.zero_add] at hw ha hc
  rw [hc, ha, hw, hp]
  rw [show 384 + (16 + r.val) = 16 + (384 + r.val) by omega]
  refine congrArg (fun s => Ideal.div s _ - _) (Finset.sum_congr rfl fun k hk => congrArg (fun y => B.U y _) ?_)
  have := Finset.mem_range.mp hk
  show 384 + (16 + r.val - k) = _
  omega

theorem pB16 (t : Fin 2) (hp : B.pos = 1024 * t) {u : FVec Ideal S656x128 .f32} (hu : u = fun j => B.U (384 + (j 0).val) (384 + (j 1).val)) (x : S640x128.Idx) :
    poolB (BitVec.ofNat 32 t) 16#32 u (b16 u) x = B.P (384 + (x 0).val) (384 + (x 1).val) := by
  refine at2 (g := fun i j => B.P (384 + i) (384 + j)) (fun r l => ?_) x
  have hw : Blk.win (384 + l.val) = 16 := by rw [Blk.win, show (384 + l.val) / 128 = 3 by omega]; rfl
  have ha := b16_at (u := u) (f := fun i j => B.U (384 + i) (384 + j)) (fun R l => by subst hu; rfl) ⟨16 + r.val, by omega⟩ l (by show 15 ≤ 16 + r.val; omega)
  have hc := cnt t.val 384 r.val 16 t.isLt (by omega) (by omega) (by omega)
  subst hu
  generalize b16 _ = S at ha ⊢
  pointwise [poolB, Blk.P]
  try simp only [Nat.zero_add] at hw ha hc
  rw [hc, ha, hw, hp]
  rw [show 384 + (16 + r.val) = 16 + (384 + r.val) by omega]
  refine congrArg (fun s => Ideal.div s _ - _) (Finset.sum_congr rfl fun k hk => congrArg (fun y => B.U y _) ?_)
  have := Finset.mem_range.mp hk
  show 384 + (16 + r.val - k) = _
  omega

theorem v384 (n : ℕ) {a : FVec Ideal S448x1024 .bf16} {b : FVec Ideal S1024x256 .bf16}
    (hh : a = fun j => B.H1 (0 + (j 0).val) (0 + (j 1).val)) (hw : b = fun j => B.W (0 + (j 0).val) (1536 + n + (j 1).val)) (x : S384x256.Idx) :
    shapeCast S384x256 (truncf .bf16 (extractStridedSlice S384x256 ![0, 0] (matmul dot_S448x1024_S1024x256_S448x256_1_0_0_1_n_n none a b
      (constant S448x256 .f32 0x00000000#32)) slices_S448x256_o0_0_S384x256) bitsLt_bf16_f32) shapeCasts_S384x256_S384x256 x = B.V (0 + (x 0).val) (n + (x 1).val) := by
  refine (at2 (g := fun i j => B.V (0 + i) (n + j)) (fun i j => ?_) x)
  have h0 := y448 a b hh hw (ix2 i j)
  generalize extractStridedSlice S384x256 ![0, 0] (matmul (F := Ideal) dot_S448x1024_S1024x256_S448x256_1_0_0_1_n_n none a b (constant (F := Ideal) S448x256 .f32 0x00000000#32)) slices_S448x256_o0_0_S384x256 = M at h0 ⊢
  pointwise
  refine h0.trans ?_
  show B.Z i.val (1536 + n + j) = B.Z i.val (1536 + (n + j))
  rw [Nat.add_assoc]

theorem g384 (n : ℕ) {a : FVec Ideal S448x1024 .bf16} {b : FVec Ideal S1024x256 .bf16}
    (hh : a = fun j => B.H1 (0 + (j 0).val) (0 + (j 1).val)) (hw : b = fun j => B.W (0 + (j 0).val) (2048 + n + (j 1).val)) (x : S384x256.Idx) :
    shapeCast S384x256 ((extractStridedSlice S384x256 ![0, 0] (matmul dot_S448x1024_S1024x256_S448x256_1_0_0_1_n_n none a b
      (constant S448x256 .f32 0x00000000#32)) slices_S448x256_o0_0_S384x256)) shapeCasts_S384x256_S384x256 x = B.G (0 + (x 0).val) (n + (x 1).val) := by
  refine (at2 (g := fun i j => B.G (0 + i) (n + j)) (fun i j => ?_) x)
  have h0 := y448 a b hh hw (ix2 i j)
  generalize extractStridedSlice S384x256 ![0, 0] (matmul (F := Ideal) dot_S448x1024_S1024x256_S448x256_1_0_0_1_n_n none a b (constant (F := Ideal) S448x256 .f32 0x00000000#32)) slices_S448x256_o0_0_S384x256 = M at h0 ⊢
  pointwise
  refine h0.trans ?_
  show B.Z i.val (2048 + n + j) = B.Z i.val (2048 + (n + j))
  rw [Nat.add_assoc]

theorem u384 (n : ℕ) {a : FVec Ideal S448x1024 .bf16} {b : FVec Ideal S1024x256 .bf16}
    (hh : a = fun j => B.H1 (0 + (j 0).val) (0 + (j 1).val)) (hw : b = fun j => B.W (0 + (j 0).val) (0 + n + (j 1).val)) (x : S384x256.Idx) :
    shapeCast S384x256 ((extractStridedSlice S384x256 ![0, 0] (matmul dot_S448x1024_S1024x256_S448x256_1_0_0_1_n_n none a b
      (constant S448x256 .f32 0x00000000#32)) slices_S448x256_o0_0_S384x256)) shapeCasts_S384x256_S384x256 x = B.U (16 + (x 0).val) (n + (x 1).val) := by
  refine (at2 (g := fun i j => B.U (16 + i) (n + j)) (fun i j => ?_) x)
  have h0 := y448 a b hh hw (ix2 i j)
  generalize extractStridedSlice S384x256 ![0, 0] (matmul (F := Ideal) dot_S448x1024_S1024x256_S448x256_1_0_0_1_n_n none a b (constant (F := Ideal) S448x256 .f32 0x00000000#32)) slices_S448x256_o0_0_S384x256 = M at h0 ⊢
  pointwise
  refine h0.trans ?_
  show B.Z (i.val) (0 + n + j) = B.U (16 + i.val) (n + j)
  rw [Blk.U, if_neg (by omega), Nat.zero_add]
  exact congrArg (fun y => B.Z y _) (by omega)

theorem v640 (n : ℕ) {a : FVec Ideal S640x1024 .bf16} {b : FVec Ideal S1024x256 .bf16}
    (hh : a = fun j => B.H (384 + (j 0).val) (0 + (j 1).val)) (hw : b = fun j => B.W (0 + (j 0).val) (1536 + n + (j 1).val)) (x : S640x256.Idx) :
    shapeCast S640x256 (truncf .bf16 (matmul dot_S640x1024_S1024x256_S640x256_1_0_0_1_n_n none a b
      (constant S640x256 .f32 0x00000000#32)) bitsLt_bf16_f32) shapeCasts_S640x256_S640x256 x = B.V (384 + (x 0).val) (n + (x 1).val) := by
  refine (at2 (g := fun i j => B.V (384 + i) (n + j)) (fun i j => ?_) x)
  have h0 := y640 a b hh hw (ix2 i j)
  generalize matmul (F := Ideal) dot_S640x1024_S1024x256_S640x256_1_0_0_1_n_n none a b (constant (F := Ideal) S640x256 .f32 0x00000000#32) = M at h0 ⊢
  pointwise
  refine h0.trans ?_
  show B.Z (384 + i.val) (1536 + n + j) = B.Z (384 + i.val) (1536 + (n + j))
  rw [Nat.add_assoc]

theorem g640 (n : ℕ) {a : FVec Ideal S640x1024 .bf16} {b : FVec Ideal S1024x256 .bf16}
    (hh : a = fun j => B.H (384 + (j 0).val) (0 + (j 1).val)) (hw : b = fun j => B.W (0 + (j 0).val) (2048 + n + (j 1).val)) (x : S640x256.Idx) :
    shapeCast S640x256 ((matmul dot_S640x1024_S1024x256_S640x256_1_0_0_1_n_n none a b
      (constant S640x256 .f32 0x00000000#32))) shapeCasts_S640x256_S640x256 x = B.G (384 + (x 0).val) (n + (x 1).val) := by
  refine (at2 (g := fun i j => B.G (384 + i) (n + j)) (fun i j => ?_) x)
  have h0 := y640 a b hh hw (ix2 i j)
  generalize matmul (F := Ideal) dot_S640x1024_S1024x256_S640x256_1_0_0_1_n_n none a b (constant (F := Ideal) S640x256 .f32 0x00000000#32) = M at h0 ⊢
  pointwise
  refine h0.trans ?_
  show B.Z (384 + i.val) (2048 + n + j) = B.Z (384 + i.val) (2048 + (n + j))
  rw [Nat.add_assoc]

theorem u640 (n : ℕ) {a : FVec Ideal S640x1024 .bf16} {b : FVec Ideal S1024x256 .bf16}
    (hh : a = fun j => B.H (384 + (j 0).val) (0 + (j 1).val)) (hw : b = fun j => B.W (0 + (j 0).val) (0 + n + (j 1).val)) (x : S640x256.Idx) :
    shapeCast S640x256 ((matmul dot_S640x1024_S1024x256_S640x256_1_0_0_1_n_n none a b
      (constant S640x256 .f32 0x00000000#32))) shapeCasts_S640x256_S640x256 x = B.U (400 + (x 0).val) (n + (x 1).val) := by
  refine (at2 (g := fun i j => B.U (400 + i) (n + j)) (fun i j => ?_) x)
  have h0 := y640 a b hh hw (ix2 i j)
  generalize matmul (F := Ideal) dot_S640x1024_S1024x256_S640x256_1_0_0_1_n_n none a b (constant (F := Ideal) S640x256 .f32 0x00000000#32) = M at h0 ⊢
  pointwise
  refine h0.trans ?_
  show B.Z (384 + i.val) (0 + n + j) = B.U (400 + i.val) (n + j)
  rw [Blk.U, if_neg (by omega), Nat.zero_add]
  exact congrArg (fun y => B.Z y _) (by omega)

theorem out384 (n : ℕ) {a : FVec Ideal S384x1024 .bf16} {b : FVec Ideal S1x1024x256 .bf16} {y : FVec Ideal S1x384x256 .f32}
    (ha : ∀ (i : Fin 384) (k : Fin 1024), i.val < 384 → a (ix2 i k) = B.M (0 + i) k) (hb : b = fun j => B.wo (0 + (j 0).val) (0 + (j 1).val) (n + (j 2).val))
    (hy : y = fun j => B.X (0 + (j 0).val) (0 + (j 1).val) (n + (j 2).val)) (x : S1x384x256.Idx) :
    shapeCast S1x384x256 (addf (shapeCast S384x256 y shapeCasts_S1x384x256_S384x256) (matmul dot_S384x1024_S1024x256_S384x256_1_0_0_1_n_n none a (shapeCast S1024x256 b shapeCasts_S1x1024x256_S1024x256) (constant S384x256 .f32 0x00000000#32))) shapeCasts_S384x256_S1x384x256 x
      = B.out (0 + (x 1).val) (n + (x 2).val) := by
  subst hb hy
  refine at3 (g := fun i j => B.out (0 + i) (n + j)) (fun i j => ?_) x
  pointwise [Blk.out]
  refine congrArg₂ (· + ·) rfl (Finset.sum_congr rfl fun k _ => congrArg₂ (· * ·) ((ha _ k i.isLt).trans ?_) rfl)
  simp

theorem out640 (n : ℕ) {a : FVec Ideal S704x1024 .bf16} {b : FVec Ideal S1x1024x256 .bf16} {y : FVec Ideal S1x640x256 .f32}
    (ha : ∀ (i : Fin 704) (k : Fin 1024), i.val < 640 → a (ix2 i k) = B.M (384 + i) k) (hb : b = fun j => B.wo (0 + (j 0).val) (0 + (j 1).val) (n + (j 2).val))
    (hy : y = fun j => B.X (0 + (j 0).val) (384 + (j 1).val) (n + (j 2).val)) (x : S1x640x256.Idx) :
    shapeCast S1x640x256 (addf (shapeCast S640x256 y shapeCasts_S1x640x256_S640x256) (extractStridedSlice S640x256 ![0, 0] (matmul dot_S704x1024_S1024x256_S704x256_1_0_0_1_n_n none a (shapeCast S1024x256 b shapeCasts_S1x1024x256_S1024x256) (constant S704x256 .f32 0x00000000#32)) slices_S704x256_o0_0_S640x256)) shapeCasts_S640x256_S1x640x256 x
      = B.out (384 + (x 1).val) (n + (x 2).val) := by
  subst hb hy
  refine at3 (g := fun i j => B.out (384 + i) (n + j)) (fun i j => ?_) x
  pointwise [Blk.out]
  refine congrArg₂ (· + ·) rfl (Finset.sum_congr rfl fun k _ => congrArg₂ (· * ·) ((ha _ k i.isLt).trans ?_) rfl)
  simp

end at_

end Cert.Mix

end
-- ==== Proof.MixPool.lean ====
/-  The pool's state: the projected rows that a grid point keeps for the prompt and for the sample, read out of the buffers
    it fills. -/
module

public import proofs.«01_k».proof.Proof.MixVec
public import proofs.«01_k».proof.Proof.Gen.KernelIdeal.Frame.RunA
public import proofs.«01_k».proof.Proof.Gen.KernelIdeal.Frame.RunB

@[expose] public section

set_option maxRecDepth 16384

noncomputable section

open Idealize.ShloMosaic Idealize.ShloMosaic.TcCoe Idealize.SL.Sem
open Cert.KernelIdeal Cert.KernelIdeal.Gen

namespace Cert.Mix

section lists
variable {s : Shape} {e : EltTy} {sig : RefSig} {κ : Kind} {sp : Space}

/-- Where the last writes cover an index, the earlier ones do not matter there. -/
theorem canon_append (L L' : List (View.Piece (Elt Ideal) s e)) (y : s.Idx) (h : Covers L y) :
    View.canon (L ++ L') y = View.canon L y := by
  induction L with
  | nil => obtain ⟨_, hp, _⟩ := h; simp at hp
  | cons p L ih =>
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem _ _ hy, View.canon_cons_of_not_mem _ _ hy]
      refine ih ?_
      obtain ⟨q, hq, hqy⟩ := h
      rcases List.mem_cons.mp hq with rfl | hq
      · exact absurd hqy hy
      · exact ⟨q, hq, hqy⟩

/-- A load of a box that the last writes cover. -/
theorem load_append {v : View sig κ sp s e} {L L' : List (View.Piece (Elt Ideal) s e)} {f : (Fin s.rank → ℕ) → Elt Ideal e}
    (hL : Agrees L f) {off size : Fin s.rank → ℕ} {inb : ∀ a, off a + size a ≤ s.size a}
    (hc : ∀ y : s.Idx, (∀ a, off a ≤ (y a).val ∧ (y a).val < off a + size a) → Covers L y) :
    v.readCov (L ++ L') (Rect.unit off size inb).toLoadRect = fun j => f (fun a => off a + (j a).val) := by
  refine Eq.trans ?_ (load (v := v) hL (inb := inb) hc)
  rw [View.readCov_eq_canon', View.readCov_eq_canon']
  funext j
  refine canon_append L L' _ (hc _ fun a => ?_)
  have hj : (((Rect.unit off size inb).toLoadRect.idx j) a : ℕ) = off a + (j a).val := by
    rw [LoadRect.idx_apply]
    show off a + 1 * (j a).val = _
    rw [Nat.one_mul]
  rw [hj]
  exact ⟨Nat.le_add_right _ _, Nat.add_lt_add_left (j a).isLt _⟩

/-- What pieces that hold a function's values leave, where they cover. -/
theorem canon_of_agrees {L : List (View.Piece (Elt Ideal) s e)} {f : (Fin s.rank → ℕ) → Elt Ideal e} (hL : Agrees L f) (y : s.Idx)
    (hc : Covers L y) : View.canon L y = f (fun a => (y a : ℕ)) :=
  View.canon_apply_of_pieces (fun y => f (fun a => (y a : ℕ))) L hL y hc

/-- A rank-four array read at natural coordinates, zero outside. -/
def N4 {n m k o : ℕ} (x : (⟨4, ![n, m, k, o]⟩ : Shape).Idx → EReal) (i j l p : ℕ) : EReal :=
  if h : i < n ∧ j < m ∧ l < k ∧ p < o then x (ix4 ⟨i, h.1⟩ ⟨j, h.2.1⟩ ⟨l, h.2.2.1⟩ ⟨p, h.2.2.2⟩) else 0

theorem N4_fin {n m k o : ℕ} (x : (⟨4, ![n, m, k, o]⟩ : Shape).Idx → EReal) (i : Fin n) (j : Fin m) (l : Fin k) (p : Fin o) :
    N4 x i j l p = x (ix4 i j l p) := dif_pos ⟨i.2, j.2, l.2, p.2⟩

theorem N4_idx {n m k o : ℕ} (x : (⟨4, ![n, m, k, o]⟩ : Shape).Idx → EReal) (y : (⟨4, ![n, m, k, o]⟩ : Shape).Idx) :
    x y = N4 x (y 0).val (y 1).val (y 2).val (y 3).val := (congrArg x (eq_ix4 y)).trans (N4_fin x (y 0) (y 1) (y 2) (y 3)).symm

theorem N4_congr {n m k o : ℕ} (x : (⟨4, ![n, m, k, o]⟩ : Shape).Idx → EReal) {i i' j j' l l' p p' : ℕ} (hi : i = i') (hj : j = j')
    (hl : l = l') (hp : p = p') : N4 x i j l p = N4 x i' j' l' p' := by subst hi hj hl hp; rfl

/-- A load of an input window held at `x`, a rank-four array of `f32`. -/
theorem arg4 {n m k o : ℕ} {M : Memref sig κ sp ⟨4, ![n, m, k, o]⟩ .f32} (h : M.IsWhole)
    (x : (⟨4, ![n, m, k, o]⟩ : Shape).Idx → EReal) {a b c d p q r u : ℕ}
    {inb : ∀ t, (![a, b, c, d] : Fin 4 → ℕ) t + (![p, q, r, u] : Fin 4 → ℕ) t ≤ (⟨4, ![n, m, k, o]⟩ : Shape).size t} :
    View.readAt (Elt Ideal) M.view (Rect.unit (s := ⟨4, ![n, m, k, o]⟩) ![a, b, c, d] ![p, q, r, u] inb).toLoadRect (h.unread x)
      = fun j => N4 x (a + (j 0).val) (b + (j 1).val) (c + (j 2).val) (d + (j 3).val) := by
  funext j
  refine (Memref.IsWhole.readAt_unread (Val := Elt Ideal) (e := .f32) h x _ j).trans ((N4_idx x _).trans ?_)
  simp only [LoadRect.idx_apply]
  exact N4_congr x (congrArg (a + ·) (Nat.one_mul _)) (congrArg (b + ·) (Nat.one_mul _)) (congrArg (c + ·) (Nat.one_mul _))
    (congrArg (d + ·) (Nat.one_mul _))

end lists

/-- The rows, the gain and the projection weight of a grid point, over natural coordinates. -/
def blk (x0 : Vec Ideal S1x1024x1024 .f32) (x1 : Vec Ideal S64x1024 .f32) (x4 : Vec Ideal S2x1024 .f32) (x5 : Vec Ideal S1024x2560 .bf16) :
    Blk where
  X := N3 x0
  XS := N2 x1
  g1 := N2 x4
  W := N2 x5
  cos _ _ := 0
  sin _ _ := 0
  qd _ _ := 0
  kd _ _ := 0
  cd _ _ := 0
  dm _ _ _ := 0
  gg _ _ := 0
  gb _ _ := 0
  wo _ _ _ := 0
  S0 _ _ _ := 0
  U0 _ _ := 0
  pos := 0

/-- The projected sample rows of a block. -/
def Blk.ZS (B : Blk) (r j : ℕ) : EReal := ∑ k : Fin 1024, rmsN (B.XS r) (B.g1 1) k * B.W k j

/-- The first columns of the projected sample rows behind the fifteen rows carried in. -/
def ueS (B : Blk) (c : ℕ → ℕ → ℕ → ℕ → EReal) (b y l : ℕ) : EReal := if y < 16 then c 0 (y - 1) b l else B.ZS (8 * b + (y - 16)) l

/-- What a point keeps of the prompt's projected rows: the last fifteen. -/
def keepP (x0 : Vec Ideal S1x1024x1024 .f32) (x4 : Vec Ideal S2x1024 .f32) (x5 : Vec Ideal S1024x2560 .bf16) :
    FVec Ideal S1x1x15x512 .f32 :=
  fun y => ∑ k : Fin 1024, rmsN (N3 x0 0 (1009 + (y 2).val)) (N2 x4 1) k * N2 x5 k (y 3).val

/-- What a point keeps of the sample's: the last fifteen of the carried rows and the new ones together. -/
def keepS (x1 : Vec Ideal S64x1024 .f32) (x2 : Vec Ideal S1x15x8x512 .f32) (x4 : Vec Ideal S2x1024 .f32) (x5 : Vec Ideal S1024x2560 .bf16) :
    FVec Ideal S1x15x8x512 .f32 :=
  fun y => if (y 1).val < 7 then N4 x2 0 ((y 1).val + 8) (y 2).val (y 3).val
    else ∑ k : Fin 1024, rmsN (N2 x1 (8 * (y 2).val + ((y 1).val - 7))) (N2 x4 1) k * N2 x5 k (y 3).val

section tiles
variable {B : Blk}

theorem at3' {n m k : ℕ} {f : (⟨3, ![n, m, k]⟩ : Shape).Idx → EReal} {g : ℕ → ℕ → ℕ → EReal} (h : ∀ (i : Fin n) (j : Fin m) (l : Fin k), f (ix3 i j l) = g i j l)
    (j : (⟨3, ![n, m, k]⟩ : Shape).Idx) : f j = g (j 0).val (j 1).val (j 2).val :=
  (congrArg f (eq_ix3 j)).trans (h _ _ _)

theorem s10 {a : FVec Ideal S448x1024 .bf16} {b : FVec Ideal S1024x256 .bf16}
    (hh : a = fun j => B.H1 (0 + (j 0).val) (0 + (j 1).val)) (hw : b = fun j => B.W (0 + (j 0).val) (0 + (j 1).val)) (x : S8x8x256.Idx) :
    k0_pay10 (F := Ideal) a b x = B.ZS (8 * (x 0).val + (x 1).val) (x 2).val := by
  subst hh hw
  refine at3' (g := fun i j l => B.ZS (8 * i + j) l) (fun i j l => ?_) x
  pointwise [k0_pay10, k0_pay8, Blk.ZS, Blk.H1]
  simp only [Nat.mul_comm 8]

theorem s13 {a : FVec Ideal S448x1024 .bf16} {b : FVec Ideal S1024x256 .bf16}
    (hh : a = fun j => B.H1 (0 + (j 0).val) (0 + (j 1).val)) (hw : b = fun j => B.W (0 + (j 0).val) (256 + (j 1).val)) (x : S8x8x256.Idx) :
    k0_pay13 (F := Ideal) a b x = B.ZS (8 * (x 0).val + (x 1).val) (256 + (x 2).val) := by
  subst hh hw
  refine at3' (g := fun i j l => B.ZS (8 * i + j) (256 + l)) (fun i j l => ?_) x
  pointwise [k0_pay13, k0_pay11, Blk.ZS, Blk.H1]
  simp only [Nat.mul_comm 8]

theorem p114 {a : FVec Ideal S640x1024 .bf16} {b : FVec Ideal S1024x256 .bf16}
    (hh : a = fun j => B.H (384 + (j 0).val) (0 + (j 1).val)) (hw : b = fun j => B.W (0 + (j 0).val) (0 + (j 1).val)) (x : S640x256.Idx) :
    k0_pay114 (F := Ideal) (k0_pay113 (F := Ideal) a b) x = B.Z (384 + (x 0).val) (x 1).val := by
  subst hh hw
  refine at2 (g := fun i j => B.Z (384 + i) j) (fun i j => ?_) x
  pointwise [k0_pay114, k0_pay113, Blk.Z]

theorem p128 {a : FVec Ideal S640x1024 .bf16} {b : FVec Ideal S1024x256 .bf16}
    (hh : a = fun j => B.H (384 + (j 0).val) (0 + (j 1).val)) (hw : b = fun j => B.W (0 + (j 0).val) (256 + (j 1).val)) (x : S640x256.Idx) :
    k0_pay128 (F := Ideal) a b x = B.Z (384 + (x 0).val) (256 + (x 1).val) := by
  subst hh hw
  refine at2 (g := fun i j => B.Z (384 + i) (256 + j)) (fun i j => ?_) x
  pointwise [k0_pay128, Blk.Z]

/-- A row of fifteen put at its place in the buffer, and taken out again. -/
theorem c15 (a : FVec Ideal S1x15x1x512 .f32) (b : ℕ) (c : ℕ → ℕ → ℕ → ℕ → EReal) (hh : a = fun j => c (0 + (j 0).val) (0 + (j 1).val) (b + (j 2).val) (0 + (j 3).val)) (x : S1x15x512.Idx) :
    shapeCast S1x15x512 (shapeCast S15x512 a shapeCasts_S1x15x1x512_S15x512) shapeCasts_S15x512_S1x15x512 x = c 0 (x 1).val b (x 2).val := by
  subst hh
  refine at3 (g := fun i l => c 0 i b l) (fun i l => ?_) x
  pointwise

theorem d15 (a : FVec Ideal S1x15x512 .f32) (x : S1x15x1x512.Idx) :
    shapeCast S1x15x1x512 (shapeCast S15x512 a shapeCasts_S1x15x512_S15x512) shapeCasts_S15x512_S1x15x1x512 x = a (ix3 0 (x 1) (x 3)) := by
  have h0 : x 0 = (0 : Fin 1) := Subsingleton.elim (α := Fin 1) _ _
  have h2 : x 2 = (0 : Fin 1) := Subsingleton.elim (α := Fin 1) _ _
  obtain ⟨d, hd⟩ : ∃ d : Fin 15, d = x 1 := ⟨_, rfl⟩
  obtain ⟨e, he⟩ : ∃ d : Fin 512, d = x 3 := ⟨_, rfl⟩
  rw [← hd, ← he, show x = ix4 0 d 0 e by rw [eq_ix4 x, h0, h2, ← hd, ← he]]
  pointwise

/-- The eight pieces of the sample's kept rows cover the block. -/
theorem covers8 (w0 w1 w2 w3 w4 w5 w6 w7 : FVec Ideal S1x15x1x512 .f32) (y : S1x15x8x512.Idx) :
    Covers (s := S1x15x8x512) (e := .f32) [⟨Rect.unit ![0, 0, 7, 0] S1x15x1x512.size inb_S1x15x8x512_S1x15x1x512_0_0_7_0, w7⟩,
    ⟨Rect.unit ![0, 0, 6, 0] S1x15x1x512.size inb_S1x15x8x512_S1x15x1x512_0_0_6_0, w6⟩,
    ⟨Rect.unit ![0, 0, 5, 0] S1x15x1x512.size inb_S1x15x8x512_S1x15x1x512_0_0_5_0, w5⟩,
    ⟨Rect.unit ![0, 0, 4, 0] S1x15x1x512.size inb_S1x15x8x512_S1x15x1x512_0_0_4_0, w4⟩,
    ⟨Rect.unit ![0, 0, 3, 0] S1x15x1x512.size inb_S1x15x8x512_S1x15x1x512_0_0_3_0, w3⟩,
    ⟨Rect.unit ![0, 0, 2, 0] S1x15x1x512.size inb_S1x15x8x512_S1x15x1x512_0_0_2_0, w2⟩,
    ⟨Rect.unit ![0, 0, 1, 0] S1x15x1x512.size inb_S1x15x8x512_S1x15x1x512_0_0_1_0, w1⟩,
    ⟨Rect.unit ![0, 0, 0, 0] S1x15x1x512.size inb_S1x15x8x512_S1x15x1x512_0_0_0_0, w0⟩] y := by
  have go : ∀ a : Fin 4, (![0, 0, (y 2).val, 0] : Fin 4 → ℕ) a ≤ (y a).val ∧ (y a).val < (![0, 0, (y 2).val, 0] : Fin 4 → ℕ) a + (![1, 15, 1, 512] : Fin 4 → ℕ) a := fun a => by
    match a with
    | ⟨0, _⟩ => exact ⟨Nat.zero_le _, (Nat.zero_add 1).symm ▸ (y 0).isLt⟩
    | ⟨1, _⟩ => exact ⟨Nat.zero_le _, (Nat.zero_add 15).symm ▸ (y 1).isLt⟩
    | ⟨2, _⟩ => exact ⟨Nat.le_refl _, Nat.lt_succ_self _⟩
    | ⟨3, _⟩ => exact ⟨Nat.zero_le _, (Nat.zero_add 512).symm ▸ (y 3).isLt⟩
  have h8 : (y 2).val < 8 := (y 2).isLt
  generalize (y 2).val = b at go h8
  interval_cases b <;> exact covers_of_within rfl _ ![1, 15, 1, 512] rfl y go

/-- The eight pieces of the sample's pool state together. -/
theorem pieces (B : Blk) (c : ℕ → ℕ → ℕ → ℕ → EReal) (w0 w1 w2 w3 w4 w5 w6 w7 : FVec Ideal S1x15x1x512 .f32)
    (h0 : ∀ x, w0 x = ueS B c (0 + (x 2).val) (9 + (x 1).val) (0 + (x 3).val))
    (h1 : ∀ x, w1 x = ueS B c (1 + (x 2).val) (9 + (x 1).val) (0 + (x 3).val))
    (h2 : ∀ x, w2 x = ueS B c (2 + (x 2).val) (9 + (x 1).val) (0 + (x 3).val))
    (h3 : ∀ x, w3 x = ueS B c (3 + (x 2).val) (9 + (x 1).val) (0 + (x 3).val))
    (h4 : ∀ x, w4 x = ueS B c (4 + (x 2).val) (9 + (x 1).val) (0 + (x 3).val))
    (h5 : ∀ x, w5 x = ueS B c (5 + (x 2).val) (9 + (x 1).val) (0 + (x 3).val))
    (h6 : ∀ x, w6 x = ueS B c (6 + (x 2).val) (9 + (x 1).val) (0 + (x 3).val))
    (h7 : ∀ x, w7 x = ueS B c (7 + (x 2).val) (9 + (x 1).val) (0 + (x 3).val))
    (y : S1x15x8x512.Idx) : View.canon (Val := Elt Ideal) (s := S1x15x8x512) (e := .f32) [⟨Rect.unit ![0, 0, 7, 0] S1x15x1x512.size inb_S1x15x8x512_S1x15x1x512_0_0_7_0, w7⟩,
    ⟨Rect.unit ![0, 0, 6, 0] S1x15x1x512.size inb_S1x15x8x512_S1x15x1x512_0_0_6_0, w6⟩,
    ⟨Rect.unit ![0, 0, 5, 0] S1x15x1x512.size inb_S1x15x8x512_S1x15x1x512_0_0_5_0, w5⟩,
    ⟨Rect.unit ![0, 0, 4, 0] S1x15x1x512.size inb_S1x15x8x512_S1x15x1x512_0_0_4_0, w4⟩,
    ⟨Rect.unit ![0, 0, 3, 0] S1x15x1x512.size inb_S1x15x8x512_S1x15x1x512_0_0_3_0, w3⟩,
    ⟨Rect.unit ![0, 0, 2, 0] S1x15x1x512.size inb_S1x15x8x512_S1x15x1x512_0_0_2_0, w2⟩,
    ⟨Rect.unit ![0, 0, 1, 0] S1x15x1x512.size inb_S1x15x8x512_S1x15x1x512_0_0_1_0, w1⟩,
    ⟨Rect.unit ![0, 0, 0, 0] S1x15x1x512.size inb_S1x15x8x512_S1x15x1x512_0_0_0_0, w0⟩] y
      = ueS B c (y 2).val (9 + (y 1).val) (y 3).val := by
  have key : ∀ (b : ℕ) (x : S1x15x1x512.Idx), ueS B c (b + (x 2).val) (9 + (x 1).val) (0 + (x 3).val)
      = ueS B c (b + (x 2).val) (9 + (0 + (x 1).val)) (0 + (x 3).val) := fun b x => by rw [Nat.zero_add (x 1).val]
  have hA : Agrees (s := S1x15x8x512) (e := .f32) [⟨Rect.unit ![0, 0, 7, 0] S1x15x1x512.size inb_S1x15x8x512_S1x15x1x512_0_0_7_0, w7⟩,
    ⟨Rect.unit ![0, 0, 6, 0] S1x15x1x512.size inb_S1x15x8x512_S1x15x1x512_0_0_6_0, w6⟩,
    ⟨Rect.unit ![0, 0, 5, 0] S1x15x1x512.size inb_S1x15x8x512_S1x15x1x512_0_0_5_0, w5⟩,
    ⟨Rect.unit ![0, 0, 4, 0] S1x15x1x512.size inb_S1x15x8x512_S1x15x1x512_0_0_4_0, w4⟩,
    ⟨Rect.unit ![0, 0, 3, 0] S1x15x1x512.size inb_S1x15x8x512_S1x15x1x512_0_0_3_0, w3⟩,
    ⟨Rect.unit ![0, 0, 2, 0] S1x15x1x512.size inb_S1x15x8x512_S1x15x1x512_0_0_2_0, w2⟩,
    ⟨Rect.unit ![0, 0, 1, 0] S1x15x1x512.size inb_S1x15x8x512_S1x15x1x512_0_0_1_0, w1⟩,
    ⟨Rect.unit ![0, 0, 0, 0] S1x15x1x512.size inb_S1x15x8x512_S1x15x1x512_0_0_0_0, w0⟩]
      (fun y => ueS B c (y 2) (9 + y 1) (y 3)) := by
    refine Agrees.cons (Agrees.cons (Agrees.cons (Agrees.cons (Agrees.cons (Agrees.cons (Agrees.cons (Agrees.cons (agrees_nil _) (fun x => (h0 x).trans (key 0 x))) (fun x => (h1 x).trans (key 1 x))) (fun x => (h2 x).trans (key 2 x))) (fun x => (h3 x).trans (key 3 x))) (fun x => (h4 x).trans (key 4 x))) (fun x => (h5 x).trans (key 5 x))) (fun x => (h6 x).trans (key 6 x))) (fun x => (h7 x).trans (key 7 x))
  exact (canon_of_agrees hA y (covers8 w0 w1 w2 w3 w4 w5 w6 w7 y)).trans rfl

end tiles

/-! ### Case A -/

namespace RA

variable (c : Dev nD) (a2 : Memref sig .tc .vmem S1x1024x1024 .f32) (h2 : a2.IsWhole) (a3 : Memref sig .tc .vmem S64x1024 .f32) (h3 : a3.IsWhole)
  (a4 : Memref sig .tc .vmem S1x15x8x512 .f32) (h4 : a4.IsWhole) (a6 : Memref sig .tc .vmem S2x1024 .f32) (h6 : a6.IsWhole)
  (a7 : Memref sig .tc .vmem S1024x2560 .bf16) (h7 : a7.IsWhole) (a37 : Memref sig .tc .vmem S1040x512 .f32) (a38 : Memref sig .tc .vmem S640x1024 .bf16)
  (a45 : Memref sig .tc .vmem S8x24x512 .f32) (x0 : Vec Ideal S1x1024x1024 .f32) (x1 : Vec Ideal S64x1024 .f32) (x2 : Vec Ideal S1x15x8x512 .f32)
  (x4 : Vec Ideal S2x1024 .f32) (x5 : Vec Ideal S1024x2560 .bf16)

/-- The normed rows of the first part, the sample's included. -/
theorem v40 : kernelRun0_A.sl.v40 (F := Ideal) c a2 h2 a3 h3 a6 h6 a38 x0 x1 x4
    = fun j => (blk x0 x1 x4 x5).H1 (0 + (j 0).val) (0 + (j 1).val) := by
  unfold kernelRun0_A.sl.v40 kernelRun0_A.sl.HS1_2 kernelRun0_A.sl.r
  refine load (s := S640x1024) (e := .bf16) (f := fun y => (blk x0 x1 x4 x5).H1 (y 0) (y 1)) (Agrees.cons (Agrees.cons (agrees_nil _) fun x => ?_) fun x => ?_) fun y hy => ?_
  · refine (h384 (B := blk x0 x1 x4 x5) _ _ (arg3 h2 x0) (arg2 h6 x4) x).trans ?_
    rfl
  · refine (h64 (B := blk x0 x1 x4 x5) _ _ (arg2 h3 x1) (arg2 h6 x4) x).trans ?_
    rfl
  · by_cases hlt : (y 0).val < 384
    · exact covers_of_within rfl ![0, 0] ![384, 1024] rfl y (fun a => by
        match a with
        | ⟨0, _⟩ => exact ⟨Nat.zero_le _, by show (y 0).val < 0 + 384; omega⟩
        | ⟨1, _⟩ => exact hy 1)
    · exact covers_of_within rfl ![384, 0] ![64, 1024] rfl y (fun a => by
        match a with
        | ⟨0, _⟩ => exact ⟨by show 384 ≤ (y 0).val; omega, by have h := (hy 0).2; exact h⟩
        | ⟨1, _⟩ => exact hy 1)

/-- The normed rows of the second part. -/
theorem v732 : kernelRun0_A.sl.v732 (F := Ideal) c a2 h2 a3 h3 a6 h6 a38 x0 x1 x4
    = fun j => (blk x0 x1 x4 x5).H (384 + (j 0).val) (0 + (j 1).val) := by
  unfold kernelRun0_A.sl.v732 kernelRun0_A.sl.HS1_3
  refine (View.readCov_cons_toLoadRect _ _ _ _).trans ?_
  exact h640 (B := blk x0 x1 x4 x5) _ _ (arg3 h2 x0) (arg2 h6 x4)

/-- The last fifteen rows of the prompt's first projected columns. -/
theorem v4823 : kernelRun0_A.sl.v4823 (F := Ideal) c a2 h2 a3 h3 a6 h6 a7 h7 a37 a38 x0 x1 x4 x5
    = fun j => (blk x0 x1 x4 x5).Z (1025 + (j 0).val - 16) (0 + (j 1).val) := by
  unfold kernelRun0_A.sl.v4823 kernelRun0_A.sl.HS0_5 kernelRun0_A.sl.HS0_4 kernelRun0_A.sl.r_39
  refine load_append (s := S1040x512) (e := .f32) (L := [_, _]) (f := fun y => (blk x0 x1 x4 x5).Z (y 0 - 16) (y 1)) (Agrees.cons (Agrees.cons (agrees_nil _) fun x => ?_) fun x => ?_) fun y hy => ?_
  · refine (p114 (B := blk x0 x1 x4 x5) (v732 c a2 h2 a3 h3 a6 h6 a38 x0 x1 x4 x5) (arg2b h7 x5) x).trans ?_
    exact congrArg₂ (blk x0 x1 x4 x5).Z (by show 384 + (x 0).val = 400 + (x 0).val - 16; omega) (by show (x 1).val = 0 + (x 1).val; omega)
  · refine (p128 (B := blk x0 x1 x4 x5) (v732 c a2 h2 a3 h3 a6 h6 a38 x0 x1 x4 x5) (arg2b h7 x5) x).trans ?_
    exact congrArg₂ (blk x0 x1 x4 x5).Z (by show 384 + (x 0).val = 400 + (x 0).val - 16; omega) rfl
  · by_cases hlt : (y 1).val < 256
    · exact covers_of_within rfl ![1025, 0] ![15, 256] rfl y (fun a => by
        match a with
        | ⟨0, _⟩ => exact hy 0
        | ⟨1, _⟩ => exact ⟨Nat.zero_le _, by show (y 1).val < 0 + 256; omega⟩)
    · exact covers_of_within rfl ![1025, 256] ![15, 256] rfl y (fun a => by
        match a with
        | ⟨0, _⟩ => exact hy 0
        | ⟨1, _⟩ => exact ⟨by show 256 ≤ (y 1).val; omega, by have h := (hy 1).2; exact h⟩)

/-- What the point writes of the prompt's pool state. -/
theorem prompt : k0_pay1 (F := Ideal) (kernelRun0_A.sl.v4823 (F := Ideal) c a2 h2 a3 h3 a6 h6 a7 h7 a37 a38 x0 x1 x4 x5) = keepP x0 x4 x5 := by
  rw [v4823]
  funext x
  have h0 : x 0 = (0 : Fin 1) := Subsingleton.elim (α := Fin 1) _ _
  have h1 : x 1 = (0 : Fin 1) := Subsingleton.elim (α := Fin 1) _ _
  obtain ⟨d, hd⟩ : ∃ d : Fin 15, d = x 2 := ⟨_, rfl⟩
  obtain ⟨e, he⟩ : ∃ d : Fin 512, d = x 3 := ⟨_, rfl⟩
  rw [show x = ix4 0 0 d e by rw [eq_ix4 x, h0, h1, ← hd, ← he]]
  have e1 : 1025 + d.val - 16 = 1009 + d.val := by omega
  pointwise [k0_pay1, keepP, Blk.Z, Blk.H, blk, e1]

/-- The sample's buffer: the carried rows and the new ones. -/
theorem buf : Agrees (kernelRun0_A.sl.HS8_10 (F := Ideal) c a2 h2 a3 h3 a4 h4 a6 h6 a7 h7 a38 x0 x1 x2 x4 x5)
    (fun y => ueS (blk x0 x1 x4 x5) (N4 x2) (y 0) (y 1) (y 2)) := by
  unfold kernelRun0_A.sl.HS8_10
  have key : ∀ (b : ℕ) (x : S1x15x512.Idx), N4 x2 0 (x 1).val b (x 2).val
      = ueS (blk x0 x1 x4 x5) (N4 x2) (b + (x 0).val) (1 + (x 1).val) (0 + (x 2).val) := fun b x => by
    have h0 : (x 0).val = 0 := Nat.lt_one_iff.mp (x 0).isLt
    have h1 : (x 1).val < 15 := (x 1).isLt
    rw [ueS, if_pos (by omega), h0, Nat.add_zero, Nat.zero_add, Nat.add_sub_cancel_left]
  refine Agrees.cons (Agrees.cons (Agrees.cons (Agrees.cons (Agrees.cons (Agrees.cons (Agrees.cons (Agrees.cons (Agrees.cons (Agrees.cons
    (agrees_nil _) fun x => ?_) fun x => ?_) fun x => (c15 _ 0 (N4 x2) (arg4 h4 x2) x).trans (key 0 x)) fun x => (c15 _ 1 (N4 x2) (arg4 h4 x2) x).trans (key 1 x))
    fun x => (c15 _ 2 (N4 x2) (arg4 h4 x2) x).trans (key 2 x)) fun x => (c15 _ 3 (N4 x2) (arg4 h4 x2) x).trans (key 3 x)) fun x => (c15 _ 4 (N4 x2) (arg4 h4 x2) x).trans (key 4 x))
    fun x => (c15 _ 5 (N4 x2) (arg4 h4 x2) x).trans (key 5 x)) fun x => (c15 _ 6 (N4 x2) (arg4 h4 x2) x).trans (key 6 x)) fun x => (c15 _ 7 (N4 x2) (arg4 h4 x2) x).trans (key 7 x)
  · refine (s10 (B := blk x0 x1 x4 x5) (v40 c a2 h2 a3 h3 a6 h6 a38 x0 x1 x4 x5) (arg2b h7 x5) x).trans ?_
    show _ = ueS (blk x0 x1 x4 x5) (N4 x2) (0 + (x 0).val) (16 + (x 1).val) (0 + (x 2).val)
    rw [ueS, if_neg (by omega), Nat.zero_add, Nat.zero_add, Nat.add_sub_cancel_left]
  · refine (s13 (B := blk x0 x1 x4 x5) (v40 c a2 h2 a3 h3 a6 h6 a38 x0 x1 x4 x5) (arg2b h7 x5) x).trans ?_
    show _ = ueS (blk x0 x1 x4 x5) (N4 x2) (0 + (x 0).val) (16 + (x 1).val) (256 + (x 2).val)
    rw [ueS, if_neg (by omega), Nat.zero_add, Nat.add_sub_cancel_left]

/-- A load of one batch entry's last fifteen rows. -/
theorem row (b : ℕ) (hb : b < 8) {inb : ∀ a, (![b, 9, 0] : Fin 3 → ℕ) a + S1x15x512.size a ≤ S8x24x512.size a} :
    a45.view.readCov (kernelRun0_A.sl.HS8_10 (F := Ideal) c a2 h2 a3 h3 a4 h4 a6 h6 a7 h7 a38 x0 x1 x2 x4 x5)
      (Rect.unit (s := S8x24x512) ![b, 9, 0] S1x15x512.size inb).toLoadRect
      = fun j => ueS (blk x0 x1 x4 x5) (N4 x2) (b + (j 0).val) (9 + (j 1).val) (0 + (j 2).val) := by
  refine load (buf c a2 h2 a3 h3 a4 h4 a6 h6 a7 h7 a38 x0 x1 x2 x4 x5) fun y hy => ?_
  have hy0 : b ≤ (y 0).val ∧ (y 0).val < b + 1 := hy 0
  have hy1 : 9 ≤ (y 1).val ∧ (y 1).val < 9 + 15 := hy 1
  have hy2 : 0 ≤ (y 2).val ∧ (y 2).val < 0 + 512 := hy 2
  by_cases h16 : (y 1).val < 16
  · have go : ∀ a : Fin 3, (![b, 9, 0] : Fin 3 → ℕ) a ≤ (y a).val ∧ (y a).val < (![b, 9, 0] : Fin 3 → ℕ) a + (![1, 7, 512] : Fin 3 → ℕ) a := fun a => by
      match a with
      | ⟨0, _⟩ => exact hy0
      | ⟨1, _⟩ => exact ⟨hy1.1, h16⟩
      | ⟨2, _⟩ => exact hy2
    interval_cases b <;> exact covers_of_within rfl _ ![1, 7, 512] rfl y go
  · by_cases hl : (y 2).val < 256
    · exact covers_of_within rfl ![0, 16, 0] ![8, 8, 256] rfl y (fun a => by
        match a with
        | ⟨0, _⟩ => exact ⟨Nat.zero_le _, by show (y 0).val < 0 + 8; omega⟩
        | ⟨1, _⟩ => exact ⟨by show 16 ≤ (y 1).val; omega, by show (y 1).val < 16 + 8; omega⟩
        | ⟨2, _⟩ => exact ⟨Nat.zero_le _, by show (y 2).val < 0 + 256; omega⟩)
    · exact covers_of_within rfl ![0, 16, 256] ![8, 8, 256] rfl y (fun a => by
        match a with
        | ⟨0, _⟩ => exact ⟨Nat.zero_le _, by show (y 0).val < 0 + 8; omega⟩
        | ⟨1, _⟩ => exact ⟨by show 16 ≤ (y 1).val; omega, by show (y 1).val < 16 + 8; omega⟩
        | ⟨2, _⟩ => exact ⟨by show 256 ≤ (y 2).val; omega, by show (y 2).val < 256 + 256; omega⟩)

/-- One batch entry's rows as they are written. -/
theorem entry (b : ℕ) (hb : b < 8) {inb : ∀ a, (![b, 9, 0] : Fin 3 → ℕ) a + S1x15x512.size a ≤ S8x24x512.size a}
    (w : FVec Ideal S1x15x512 .f32) (hw : w = a45.view.readCov (kernelRun0_A.sl.HS8_10 (F := Ideal) c a2 h2 a3 h3 a4 h4 a6 h6 a7 h7 a38 x0 x1 x2 x4 x5)
      (Rect.unit (s := S8x24x512) ![b, 9, 0] S1x15x512.size inb).toLoadRect) (x : S1x15x1x512.Idx) :
    shapeCast S1x15x1x512 (shapeCast S15x512 w shapeCasts_S1x15x512_S15x512) shapeCasts_S15x512_S1x15x1x512 x
      = ueS (blk x0 x1 x4 x5) (N4 x2) (b + (x 2).val) (9 + (x 1).val) (0 + (x 3).val) := by
  subst hw
  rw [d15, row c a2 h2 a3 h3 a4 h4 a6 h6 a7 h7 a38 a45 x0 x1 x2 x4 x5 b hb]
  have h2' : (x 2).val = 0 := Nat.lt_one_iff.mp (x 2).isLt
  rw [h2']
  rfl

theorem e0 (x : S1x15x1x512.Idx) : k0_pay369 (F := Ideal) (kernelRun0_A.sl.v2735 c a2 h2 a3 h3 a4 h4 a6 h6 a7 h7 a38 a45 x0 x1 x2 x4 x5) x
    = ueS (blk x0 x1 x4 x5) (N4 x2) (0 + (x 2).val) (9 + (x 1).val) (0 + (x 3).val) := by
  unfold k0_pay369 kernelRun0_A.sl.v2735
  exact entry c a2 h2 a3 h3 a4 h4 a6 h6 a7 h7 a38 a45 x0 x1 x2 x4 x5 0 (by omega) _ rfl x

theorem e1 (x : S1x15x1x512.Idx) : kernelRun0_A.sl.v2744 (F := Ideal) c a2 h2 a3 h3 a4 h4 a6 h6 a7 h7 a38 a45 x0 x1 x2 x4 x5 x
    = ueS (blk x0 x1 x4 x5) (N4 x2) (1 + (x 2).val) (9 + (x 1).val) (0 + (x 3).val) := by
  unfold kernelRun0_A.sl.v2744 kernelRun0_A.sl.v2741 kernelRun0_A.sl.v2740
  exact entry c a2 h2 a3 h3 a4 h4 a6 h6 a7 h7 a38 a45 x0 x1 x2 x4 x5 1 (by omega) _ rfl x

theorem e2 (x : S1x15x1x512.Idx) : kernelRun0_A.sl.v2749 (F := Ideal) c a2 h2 a3 h3 a4 h4 a6 h6 a7 h7 a38 a45 x0 x1 x2 x4 x5 x
    = ueS (blk x0 x1 x4 x5) (N4 x2) (2 + (x 2).val) (9 + (x 1).val) (0 + (x 3).val) := by
  unfold kernelRun0_A.sl.v2749 kernelRun0_A.sl.v2746 kernelRun0_A.sl.v2745
  exact entry c a2 h2 a3 h3 a4 h4 a6 h6 a7 h7 a38 a45 x0 x1 x2 x4 x5 2 (by omega) _ rfl x

theorem e3 (x : S1x15x1x512.Idx) : kernelRun0_A.sl.v2754 (F := Ideal) c a2 h2 a3 h3 a4 h4 a6 h6 a7 h7 a38 a45 x0 x1 x2 x4 x5 x
    = ueS (blk x0 x1 x4 x5) (N4 x2) (3 + (x 2).val) (9 + (x 1).val) (0 + (x 3).val) := by
  unfold kernelRun0_A.sl.v2754 kernelRun0_A.sl.v2751 kernelRun0_A.sl.v2750
  exact entry c a2 h2 a3 h3 a4 h4 a6 h6 a7 h7 a38 a45 x0 x1 x2 x4 x5 3 (by omega) _ rfl x

theorem e4 (x : S1x15x1x512.Idx) : kernelRun0_A.sl.v2759 (F := Ideal) c a2 h2 a3 h3 a4 h4 a6 h6 a7 h7 a38 a45 x0 x1 x2 x4 x5 x
    = ueS (blk x0 x1 x4 x5) (N4 x2) (4 + (x 2).val) (9 + (x 1).val) (0 + (x 3).val) := by
  unfold kernelRun0_A.sl.v2759 kernelRun0_A.sl.v2756 kernelRun0_A.sl.v2755
  exact entry c a2 h2 a3 h3 a4 h4 a6 h6 a7 h7 a38 a45 x0 x1 x2 x4 x5 4 (by omega) _ rfl x

theorem e5 (x : S1x15x1x512.Idx) : k0_pay375 (F := Ideal) (kernelRun0_A.sl.v2761 c a2 h2 a3 h3 a4 h4 a6 h6 a7 h7 a38 a45 x0 x1 x2 x4 x5) x
    = ueS (blk x0 x1 x4 x5) (N4 x2) (5 + (x 2).val) (9 + (x 1).val) (0 + (x 3).val) := by
  unfold k0_pay375 kernelRun0_A.sl.v2761 kernelRun0_A.sl.v2760
  exact entry c a2 h2 a3 h3 a4 h4 a6 h6 a7 h7 a38 a45 x0 x1 x2 x4 x5 5 (by omega) _ rfl x

theorem e6 (x : S1x15x1x512.Idx) : k0_pay376 (F := Ideal) (kernelRun0_A.sl.v2765 c a2 h2 a3 h3 a4 h4 a6 h6 a7 h7 a38 a45 x0 x1 x2 x4 x5) x
    = ueS (blk x0 x1 x4 x5) (N4 x2) (6 + (x 2).val) (9 + (x 1).val) (0 + (x 3).val) := by
  unfold k0_pay376 kernelRun0_A.sl.v2765
  exact entry c a2 h2 a3 h3 a4 h4 a6 h6 a7 h7 a38 a45 x0 x1 x2 x4 x5 6 (by omega) _ rfl x

theorem e7 (x : S1x15x1x512.Idx) : k0_pay377 (F := Ideal) (kernelRun0_A.sl.v2770 c a2 h2 a3 h3 a4 h4 a6 h6 a7 h7 a38 a45 x0 x1 x2 x4 x5) x
    = ueS (blk x0 x1 x4 x5) (N4 x2) (7 + (x 2).val) (9 + (x 1).val) (0 + (x 3).val) := by
  unfold k0_pay377 kernelRun0_A.sl.v2770
  exact entry c a2 h2 a3 h3 a4 h4 a6 h6 a7 h7 a38 a45 x0 x1 x2 x4 x5 7 (by omega) _ rfl x

/-- What the point writes of the sample's pool state. -/
theorem sample (y : S1x15x8x512.Idx) : View.canon (Val := Elt Ideal) (s := S1x15x8x512) (e := .f32) [⟨Rect.unit ![0, 0, 7, 0] S1x15x1x512.size inb_S1x15x8x512_S1x15x1x512_0_0_7_0, k0_pay377 (F := Ideal) (kernelRun0_A.sl.v2770 c a2 h2 a3 h3 a4 h4 a6 h6 a7 h7 a38 a45 x0 x1 x2 x4 x5)⟩,
    ⟨Rect.unit ![0, 0, 6, 0] S1x15x1x512.size inb_S1x15x8x512_S1x15x1x512_0_0_6_0, k0_pay376 (F := Ideal) (kernelRun0_A.sl.v2765 c a2 h2 a3 h3 a4 h4 a6 h6 a7 h7 a38 a45 x0 x1 x2 x4 x5)⟩,
    ⟨Rect.unit ![0, 0, 5, 0] S1x15x1x512.size inb_S1x15x8x512_S1x15x1x512_0_0_5_0, k0_pay375 (F := Ideal) (kernelRun0_A.sl.v2761 c a2 h2 a3 h3 a4 h4 a6 h6 a7 h7 a38 a45 x0 x1 x2 x4 x5)⟩,
    ⟨Rect.unit ![0, 0, 4, 0] S1x15x1x512.size inb_S1x15x8x512_S1x15x1x512_0_0_4_0, kernelRun0_A.sl.v2759 (F := Ideal) c a2 h2 a3 h3 a4 h4 a6 h6 a7 h7 a38 a45 x0 x1 x2 x4 x5⟩,
    ⟨Rect.unit ![0, 0, 3, 0] S1x15x1x512.size inb_S1x15x8x512_S1x15x1x512_0_0_3_0, kernelRun0_A.sl.v2754 (F := Ideal) c a2 h2 a3 h3 a4 h4 a6 h6 a7 h7 a38 a45 x0 x1 x2 x4 x5⟩,
    ⟨Rect.unit ![0, 0, 2, 0] S1x15x1x512.size inb_S1x15x8x512_S1x15x1x512_0_0_2_0, kernelRun0_A.sl.v2749 (F := Ideal) c a2 h2 a3 h3 a4 h4 a6 h6 a7 h7 a38 a45 x0 x1 x2 x4 x5⟩,
    ⟨Rect.unit ![0, 0, 1, 0] S1x15x1x512.size inb_S1x15x8x512_S1x15x1x512_0_0_1_0, kernelRun0_A.sl.v2744 (F := Ideal) c a2 h2 a3 h3 a4 h4 a6 h6 a7 h7 a38 a45 x0 x1 x2 x4 x5⟩,
    ⟨Rect.unit ![0, 0, 0, 0] S1x15x1x512.size inb_S1x15x8x512_S1x15x1x512_0_0_0_0, k0_pay369 (F := Ideal) (kernelRun0_A.sl.v2735 c a2 h2 a3 h3 a4 h4 a6 h6 a7 h7 a38 a45 x0 x1 x2 x4 x5)⟩] y
      = keepS x1 x2 x4 x5 y := by
  refine (pieces (blk x0 x1 x4 x5) (N4 x2) _ _ _ _ _ _ _ _ (e0 c a2 h2 a3 h3 a4 h4 a6 h6 a7 h7 a38 a45 x0 x1 x2 x4 x5) (e1 c a2 h2 a3 h3 a4 h4 a6 h6 a7 h7 a38 a45 x0 x1 x2 x4 x5) (e2 c a2 h2 a3 h3 a4 h4 a6 h6 a7 h7 a38 a45 x0 x1 x2 x4 x5) (e3 c a2 h2 a3 h3 a4 h4 a6 h6 a7 h7 a38 a45 x0 x1 x2 x4 x5) (e4 c a2 h2 a3 h3 a4 h4 a6 h6 a7 h7 a38 a45 x0 x1 x2 x4 x5) (e5 c a2 h2 a3 h3 a4 h4 a6 h6 a7 h7 a38 a45 x0 x1 x2 x4 x5) (e6 c a2 h2 a3 h3 a4 h4 a6 h6 a7 h7 a38 a45 x0 x1 x2 x4 x5) (e7 c a2 h2 a3 h3 a4 h4 a6 h6 a7 h7 a38 a45 x0 x1 x2 x4 x5) y).trans ?_
  unfold ueS keepS
  by_cases h : (y 1).val < 7
  · rw [if_pos (by omega), if_pos h]
    exact N4_congr x2 rfl (by omega) rfl rfl
  · rw [if_neg (by omega), if_neg h, show 9 + (y 1).val - 16 = (y 1).val - 7 by omega]
    rfl

end RA

/-! ### Case B -/

namespace RB

variable (c : Dev nD) (a2 : Memref sig .tc .vmem S1x1024x1024 .f32) (h2 : a2.IsWhole) (a3 : Memref sig .tc .vmem S64x1024 .f32) (h3 : a3.IsWhole)
  (a4 : Memref sig .tc .vmem S1x15x8x512 .f32) (h4 : a4.IsWhole) (a6 : Memref sig .tc .vmem S2x1024 .f32) (h6 : a6.IsWhole)
  (a7 : Memref sig .tc .vmem S1024x2560 .bf16) (h7 : a7.IsWhole) (a37 : Memref sig .tc .vmem S1040x512 .f32) (a38 : Memref sig .tc .vmem S640x1024 .bf16)
  (a45 : Memref sig .tc .vmem S8x24x512 .f32) (x0 : Vec Ideal S1x1024x1024 .f32) (x1 : Vec Ideal S64x1024 .f32) (x2 : Vec Ideal S1x15x8x512 .f32)
  (x4 : Vec Ideal S2x1024 .f32) (x5 : Vec Ideal S1024x2560 .bf16)

/-- The normed rows of the first part, the sample's included. -/
theorem v40 : kernelRun0_B.sl.v40 (F := Ideal) c a2 h2 a3 h3 a6 h6 a38 x0 x1 x4
    = fun j => (blk x0 x1 x4 x5).H1 (0 + (j 0).val) (0 + (j 1).val) := by
  unfold kernelRun0_B.sl.v40 kernelRun0_B.sl.HS1_2 kernelRun0_B.sl.r
  refine load (s := S640x1024) (e := .bf16) (f := fun y => (blk x0 x1 x4 x5).H1 (y 0) (y 1)) (Agrees.cons (Agrees.cons (agrees_nil _) fun x => ?_) fun x => ?_) fun y hy => ?_
  · refine (h384 (B := blk x0 x1 x4 x5) _ _ (arg3 h2 x0) (arg2 h6 x4) x).trans ?_
    rfl
  · refine (h64 (B := blk x0 x1 x4 x5) _ _ (arg2 h3 x1) (arg2 h6 x4) x).trans ?_
    rfl
  · by_cases hlt : (y 0).val < 384
    · exact covers_of_within rfl ![0, 0] ![384, 1024] rfl y (fun a => by
        match a with
        | ⟨0, _⟩ => exact ⟨Nat.zero_le _, by show (y 0).val < 0 + 384; omega⟩
        | ⟨1, _⟩ => exact hy 1)
    · exact covers_of_within rfl ![384, 0] ![64, 1024] rfl y (fun a => by
        match a with
        | ⟨0, _⟩ => exact ⟨by show 384 ≤ (y 0).val; omega, by have h := (hy 0).2; exact h⟩
        | ⟨1, _⟩ => exact hy 1)

/-- The normed rows of the second part. -/
theorem v732 : kernelRun0_B.sl.v732 (F := Ideal) c a2 h2 a3 h3 a6 h6 a38 x0 x1 x4
    = fun j => (blk x0 x1 x4 x5).H (384 + (j 0).val) (0 + (j 1).val) := by
  unfold kernelRun0_B.sl.v732 kernelRun0_B.sl.HS1_3
  refine (View.readCov_cons_toLoadRect _ _ _ _).trans ?_
  exact h640 (B := blk x0 x1 x4 x5) _ _ (arg3 h2 x0) (arg2 h6 x4)

/-- The last fifteen rows of the prompt's first projected columns. -/
theorem v4823 : kernelRun0_B.sl.v4823 (F := Ideal) c a2 h2 a3 h3 a6 h6 a7 h7 a37 a38 x0 x1 x4 x5
    = fun j => (blk x0 x1 x4 x5).Z (1025 + (j 0).val - 16) (0 + (j 1).val) := by
  unfold kernelRun0_B.sl.v4823 kernelRun0_B.sl.HS0_4 kernelRun0_B.sl.HS0_3 kernelRun0_B.sl.r_39
  refine load_append (s := S1040x512) (e := .f32) (L := [_, _]) (f := fun y => (blk x0 x1 x4 x5).Z (y 0 - 16) (y 1)) (Agrees.cons (Agrees.cons (agrees_nil _) fun x => ?_) fun x => ?_) fun y hy => ?_
  · refine (p114 (B := blk x0 x1 x4 x5) (v732 c a2 h2 a3 h3 a6 h6 a38 x0 x1 x4 x5) (arg2b h7 x5) x).trans ?_
    exact congrArg₂ (blk x0 x1 x4 x5).Z (by show 384 + (x 0).val = 400 + (x 0).val - 16; omega) (by show (x 1).val = 0 + (x 1).val; omega)
  · refine (p128 (B := blk x0 x1 x4 x5) (v732 c a2 h2 a3 h3 a6 h6 a38 x0 x1 x4 x5) (arg2b h7 x5) x).trans ?_
    exact congrArg₂ (blk x0 x1 x4 x5).Z (by show 384 + (x 0).val = 400 + (x 0).val - 16; omega) rfl
  · by_cases hlt : (y 1).val < 256
    · exact covers_of_within rfl ![1025, 0] ![15, 256] rfl y (fun a => by
        match a with
        | ⟨0, _⟩ => exact hy 0
        | ⟨1, _⟩ => exact ⟨Nat.zero_le _, by show (y 1).val < 0 + 256; omega⟩)
    · exact covers_of_within rfl ![1025, 256] ![15, 256] rfl y (fun a => by
        match a with
        | ⟨0, _⟩ => exact hy 0
        | ⟨1, _⟩ => exact ⟨by show 256 ≤ (y 1).val; omega, by have h := (hy 1).2; exact h⟩)

/-- What the point writes of the prompt's pool state. -/
theorem prompt : k0_pay1 (F := Ideal) (kernelRun0_B.sl.v4823 (F := Ideal) c a2 h2 a3 h3 a6 h6 a7 h7 a37 a38 x0 x1 x4 x5) = keepP x0 x4 x5 := by
  rw [v4823]
  funext x
  have h0 : x 0 = (0 : Fin 1) := Subsingleton.elim (α := Fin 1) _ _
  have h1 : x 1 = (0 : Fin 1) := Subsingleton.elim (α := Fin 1) _ _
  obtain ⟨d, hd⟩ : ∃ d : Fin 15, d = x 2 := ⟨_, rfl⟩
  obtain ⟨e, he⟩ : ∃ d : Fin 512, d = x 3 := ⟨_, rfl⟩
  rw [show x = ix4 0 0 d e by rw [eq_ix4 x, h0, h1, ← hd, ← he]]
  have e1 : 1025 + d.val - 16 = 1009 + d.val := by omega
  pointwise [k0_pay1, keepP, Blk.Z, Blk.H, blk, e1]

/-- The sample's buffer: the carried rows and the new ones. -/
theorem buf : Agrees (kernelRun0_B.sl.HS8_10 (F := Ideal) c a2 h2 a3 h3 a4 h4 a6 h6 a7 h7 a38 x0 x1 x2 x4 x5)
    (fun y => ueS (blk x0 x1 x4 x5) (N4 x2) (y 0) (y 1) (y 2)) := by
  unfold kernelRun0_B.sl.HS8_10
  have key : ∀ (b : ℕ) (x : S1x15x512.Idx), N4 x2 0 (x 1).val b (x 2).val
      = ueS (blk x0 x1 x4 x5) (N4 x2) (b + (x 0).val) (1 + (x 1).val) (0 + (x 2).val) := fun b x => by
    have h0 : (x 0).val = 0 := Nat.lt_one_iff.mp (x 0).isLt
    have h1 : (x 1).val < 15 := (x 1).isLt
    rw [ueS, if_pos (by omega), h0, Nat.add_zero, Nat.zero_add, Nat.add_sub_cancel_left]
  refine Agrees.cons (Agrees.cons (Agrees.cons (Agrees.cons (Agrees.cons (Agrees.cons (Agrees.cons (Agrees.cons (Agrees.cons (Agrees.cons
    (agrees_nil _) fun x => ?_) fun x => ?_) fun x => (c15 _ 0 (N4 x2) (arg4 h4 x2) x).trans (key 0 x)) fun x => (c15 _ 1 (N4 x2) (arg4 h4 x2) x).trans (key 1 x))
    fun x => (c15 _ 2 (N4 x2) (arg4 h4 x2) x).trans (key 2 x)) fun x => (c15 _ 3 (N4 x2) (arg4 h4 x2) x).trans (key 3 x)) fun x => (c15 _ 4 (N4 x2) (arg4 h4 x2) x).trans (key 4 x))
    fun x => (c15 _ 5 (N4 x2) (arg4 h4 x2) x).trans (key 5 x)) fun x => (c15 _ 6 (N4 x2) (arg4 h4 x2) x).trans (key 6 x)) fun x => (c15 _ 7 (N4 x2) (arg4 h4 x2) x).trans (key 7 x)
  · refine (s10 (B := blk x0 x1 x4 x5) (v40 c a2 h2 a3 h3 a6 h6 a38 x0 x1 x4 x5) (arg2b h7 x5) x).trans ?_
    show _ = ueS (blk x0 x1 x4 x5) (N4 x2) (0 + (x 0).val) (16 + (x 1).val) (0 + (x 2).val)
    rw [ueS, if_neg (by omega), Nat.zero_add, Nat.zero_add, Nat.add_sub_cancel_left]
  · refine (s13 (B := blk x0 x1 x4 x5) (v40 c a2 h2 a3 h3 a6 h6 a38 x0 x1 x4 x5) (arg2b h7 x5) x).trans ?_
    show _ = ueS (blk x0 x1 x4 x5) (N4 x2) (0 + (x 0).val) (16 + (x 1).val) (256 + (x 2).val)
    rw [ueS, if_neg (by omega), Nat.zero_add, Nat.add_sub_cancel_left]

/-- A load of one batch entry's last fifteen rows. -/
theorem row (b : ℕ) (hb : b < 8) {inb : ∀ a, (![b, 9, 0] : Fin 3 → ℕ) a + S1x15x512.size a ≤ S8x24x512.size a} :
    a45.view.readCov (kernelRun0_B.sl.HS8_10 (F := Ideal) c a2 h2 a3 h3 a4 h4 a6 h6 a7 h7 a38 x0 x1 x2 x4 x5)
      (Rect.unit (s := S8x24x512) ![b, 9, 0] S1x15x512.size inb).toLoadRect
      = fun j => ueS (blk x0 x1 x4 x5) (N4 x2) (b + (j 0).val) (9 + (j 1).val) (0 + (j 2).val) := by
  refine load (buf c a2 h2 a3 h3 a4 h4 a6 h6 a7 h7 a38 x0 x1 x2 x4 x5) fun y hy => ?_
  have hy0 : b ≤ (y 0).val ∧ (y 0).val < b + 1 := hy 0
  have hy1 : 9 ≤ (y 1).val ∧ (y 1).val < 9 + 15 := hy 1
  have hy2 : 0 ≤ (y 2).val ∧ (y 2).val < 0 + 512 := hy 2
  by_cases h16 : (y 1).val < 16
  · have go : ∀ a : Fin 3, (![b, 9, 0] : Fin 3 → ℕ) a ≤ (y a).val ∧ (y a).val < (![b, 9, 0] : Fin 3 → ℕ) a + (![1, 7, 512] : Fin 3 → ℕ) a := fun a => by
      match a with
      | ⟨0, _⟩ => exact hy0
      | ⟨1, _⟩ => exact ⟨hy1.1, h16⟩
      | ⟨2, _⟩ => exact hy2
    interval_cases b <;> exact covers_of_within rfl _ ![1, 7, 512] rfl y go
  · by_cases hl : (y 2).val < 256
    · exact covers_of_within rfl ![0, 16, 0] ![8, 8, 256] rfl y (fun a => by
        match a with
        | ⟨0, _⟩ => exact ⟨Nat.zero_le _, by show (y 0).val < 0 + 8; omega⟩
        | ⟨1, _⟩ => exact ⟨by show 16 ≤ (y 1).val; omega, by show (y 1).val < 16 + 8; omega⟩
        | ⟨2, _⟩ => exact ⟨Nat.zero_le _, by show (y 2).val < 0 + 256; omega⟩)
    · exact covers_of_within rfl ![0, 16, 256] ![8, 8, 256] rfl y (fun a => by
        match a with
        | ⟨0, _⟩ => exact ⟨Nat.zero_le _, by show (y 0).val < 0 + 8; omega⟩
        | ⟨1, _⟩ => exact ⟨by show 16 ≤ (y 1).val; omega, by show (y 1).val < 16 + 8; omega⟩
        | ⟨2, _⟩ => exact ⟨by show 256 ≤ (y 2).val; omega, by show (y 2).val < 256 + 256; omega⟩)

/-- One batch entry's rows as they are written. -/
theorem entry (b : ℕ) (hb : b < 8) {inb : ∀ a, (![b, 9, 0] : Fin 3 → ℕ) a + S1x15x512.size a ≤ S8x24x512.size a}
    (w : FVec Ideal S1x15x512 .f32) (hw : w = a45.view.readCov (kernelRun0_B.sl.HS8_10 (F := Ideal) c a2 h2 a3 h3 a4 h4 a6 h6 a7 h7 a38 x0 x1 x2 x4 x5)
      (Rect.unit (s := S8x24x512) ![b, 9, 0] S1x15x512.size inb).toLoadRect) (x : S1x15x1x512.Idx) :
    shapeCast S1x15x1x512 (shapeCast S15x512 w shapeCasts_S1x15x512_S15x512) shapeCasts_S15x512_S1x15x1x512 x
      = ueS (blk x0 x1 x4 x5) (N4 x2) (b + (x 2).val) (9 + (x 1).val) (0 + (x 3).val) := by
  subst hw
  rw [d15, row c a2 h2 a3 h3 a4 h4 a6 h6 a7 h7 a38 a45 x0 x1 x2 x4 x5 b hb]
  have h2' : (x 2).val = 0 := Nat.lt_one_iff.mp (x 2).isLt
  rw [h2']
  rfl

theorem e0 (x : S1x15x1x512.Idx) : k0_pay369 (F := Ideal) (kernelRun0_B.sl.v2735 c a2 h2 a3 h3 a4 h4 a6 h6 a7 h7 a38 a45 x0 x1 x2 x4 x5) x
    = ueS (blk x0 x1 x4 x5) (N4 x2) (0 + (x 2).val) (9 + (x 1).val) (0 + (x 3).val) := by
  unfold k0_pay369 kernelRun0_B.sl.v2735
  exact entry c a2 h2 a3 h3 a4 h4 a6 h6 a7 h7 a38 a45 x0 x1 x2 x4 x5 0 (by omega) _ rfl x

theorem e1 (x : S1x15x1x512.Idx) : kernelRun0_B.sl.v2744 (F := Ideal) c a2 h2 a3 h3 a4 h4 a6 h6 a7 h7 a38 a45 x0 x1 x2 x4 x5 x
    = ueS (blk x0 x1 x4 x5) (N4 x2) (1 + (x 2).val) (9 + (x 1).val) (0 + (x 3).val) := by
  unfold kernelRun0_B.sl.v2744 kernelRun0_B.sl.v2741 kernelRun0_B.sl.v2740
  exact entry c a2 h2 a3 h3 a4 h4 a6 h6 a7 h7 a38 a45 x0 x1 x2 x4 x5 1 (by omega) _ rfl x

theorem e2 (x : S1x15x1x512.Idx) : kernelRun0_B.sl.v2749 (F := Ideal) c a2 h2 a3 h3 a4 h4 a6 h6 a7 h7 a38 a45 x0 x1 x2 x4 x5 x
    = ueS (blk x0 x1 x4 x5) (N4 x2) (2 + (x 2).val) (9 + (x 1).val) (0 + (x 3).val) := by
  unfold kernelRun0_B.sl.v2749 kernelRun0_B.sl.v2746 kernelRun0_B.sl.v2745
  exact entry c a2 h2 a3 h3 a4 h4 a6 h6 a7 h7 a38 a45 x0 x1 x2 x4 x5 2 (by omega) _ rfl x

theorem e3 (x : S1x15x1x512.Idx) : kernelRun0_B.sl.v2754 (F := Ideal) c a2 h2 a3 h3 a4 h4 a6 h6 a7 h7 a38 a45 x0 x1 x2 x4 x5 x
    = ueS (blk x0 x1 x4 x5) (N4 x2) (3 + (x 2).val) (9 + (x 1).val) (0 + (x 3).val) := by
  unfold kernelRun0_B.sl.v2754 kernelRun0_B.sl.v2751 kernelRun0_B.sl.v2750
  exact entry c a2 h2 a3 h3 a4 h4 a6 h6 a7 h7 a38 a45 x0 x1 x2 x4 x5 3 (by omega) _ rfl x

theorem e4 (x : S1x15x1x512.Idx) : kernelRun0_B.sl.v2759 (F := Ideal) c a2 h2 a3 h3 a4 h4 a6 h6 a7 h7 a38 a45 x0 x1 x2 x4 x5 x
    = ueS (blk x0 x1 x4 x5) (N4 x2) (4 + (x 2).val) (9 + (x 1).val) (0 + (x 3).val) := by
  unfold kernelRun0_B.sl.v2759 kernelRun0_B.sl.v2756 kernelRun0_B.sl.v2755
  exact entry c a2 h2 a3 h3 a4 h4 a6 h6 a7 h7 a38 a45 x0 x1 x2 x4 x5 4 (by omega) _ rfl x

theorem e5 (x : S1x15x1x512.Idx) : k0_pay375 (F := Ideal) (kernelRun0_B.sl.v2761 c a2 h2 a3 h3 a4 h4 a6 h6 a7 h7 a38 a45 x0 x1 x2 x4 x5) x
    = ueS (blk x0 x1 x4 x5) (N4 x2) (5 + (x 2).val) (9 + (x 1).val) (0 + (x 3).val) := by
  unfold k0_pay375 kernelRun0_B.sl.v2761 kernelRun0_B.sl.v2760
  exact entry c a2 h2 a3 h3 a4 h4 a6 h6 a7 h7 a38 a45 x0 x1 x2 x4 x5 5 (by omega) _ rfl x

theorem e6 (x : S1x15x1x512.Idx) : k0_pay376 (F := Ideal) (kernelRun0_B.sl.v2765 c a2 h2 a3 h3 a4 h4 a6 h6 a7 h7 a38 a45 x0 x1 x2 x4 x5) x
    = ueS (blk x0 x1 x4 x5) (N4 x2) (6 + (x 2).val) (9 + (x 1).val) (0 + (x 3).val) := by
  unfold k0_pay376 kernelRun0_B.sl.v2765
  exact entry c a2 h2 a3 h3 a4 h4 a6 h6 a7 h7 a38 a45 x0 x1 x2 x4 x5 6 (by omega) _ rfl x

theorem e7 (x : S1x15x1x512.Idx) : k0_pay377 (F := Ideal) (kernelRun0_B.sl.v2770 c a2 h2 a3 h3 a4 h4 a6 h6 a7 h7 a38 a45 x0 x1 x2 x4 x5) x
    = ueS (blk x0 x1 x4 x5) (N4 x2) (7 + (x 2).val) (9 + (x 1).val) (0 + (x 3).val) := by
  unfold k0_pay377 kernelRun0_B.sl.v2770
  exact entry c a2 h2 a3 h3 a4 h4 a6 h6 a7 h7 a38 a45 x0 x1 x2 x4 x5 7 (by omega) _ rfl x

/-- What the point writes of the sample's pool state. -/
theorem sample (y : S1x15x8x512.Idx) : View.canon (Val := Elt Ideal) (s := S1x15x8x512) (e := .f32) [⟨Rect.unit ![0, 0, 7, 0] S1x15x1x512.size inb_S1x15x8x512_S1x15x1x512_0_0_7_0, k0_pay377 (F := Ideal) (kernelRun0_B.sl.v2770 c a2 h2 a3 h3 a4 h4 a6 h6 a7 h7 a38 a45 x0 x1 x2 x4 x5)⟩,
    ⟨Rect.unit ![0, 0, 6, 0] S1x15x1x512.size inb_S1x15x8x512_S1x15x1x512_0_0_6_0, k0_pay376 (F := Ideal) (kernelRun0_B.sl.v2765 c a2 h2 a3 h3 a4 h4 a6 h6 a7 h7 a38 a45 x0 x1 x2 x4 x5)⟩,
    ⟨Rect.unit ![0, 0, 5, 0] S1x15x1x512.size inb_S1x15x8x512_S1x15x1x512_0_0_5_0, k0_pay375 (F := Ideal) (kernelRun0_B.sl.v2761 c a2 h2 a3 h3 a4 h4 a6 h6 a7 h7 a38 a45 x0 x1 x2 x4 x5)⟩,
    ⟨Rect.unit ![0, 0, 4, 0] S1x15x1x512.size inb_S1x15x8x512_S1x15x1x512_0_0_4_0, kernelRun0_B.sl.v2759 (F := Ideal) c a2 h2 a3 h3 a4 h4 a6 h6 a7 h7 a38 a45 x0 x1 x2 x4 x5⟩,
    ⟨Rect.unit ![0, 0, 3, 0] S1x15x1x512.size inb_S1x15x8x512_S1x15x1x512_0_0_3_0, kernelRun0_B.sl.v2754 (F := Ideal) c a2 h2 a3 h3 a4 h4 a6 h6 a7 h7 a38 a45 x0 x1 x2 x4 x5⟩,
    ⟨Rect.unit ![0, 0, 2, 0] S1x15x1x512.size inb_S1x15x8x512_S1x15x1x512_0_0_2_0, kernelRun0_B.sl.v2749 (F := Ideal) c a2 h2 a3 h3 a4 h4 a6 h6 a7 h7 a38 a45 x0 x1 x2 x4 x5⟩,
    ⟨Rect.unit ![0, 0, 1, 0] S1x15x1x512.size inb_S1x15x8x512_S1x15x1x512_0_0_1_0, kernelRun0_B.sl.v2744 (F := Ideal) c a2 h2 a3 h3 a4 h4 a6 h6 a7 h7 a38 a45 x0 x1 x2 x4 x5⟩,
    ⟨Rect.unit ![0, 0, 0, 0] S1x15x1x512.size inb_S1x15x8x512_S1x15x1x512_0_0_0_0, k0_pay369 (F := Ideal) (kernelRun0_B.sl.v2735 c a2 h2 a3 h3 a4 h4 a6 h6 a7 h7 a38 a45 x0 x1 x2 x4 x5)⟩] y
      = keepS x1 x2 x4 x5 y := by
  refine (pieces (blk x0 x1 x4 x5) (N4 x2) _ _ _ _ _ _ _ _ (e0 c a2 h2 a3 h3 a4 h4 a6 h6 a7 h7 a38 a45 x0 x1 x2 x4 x5) (e1 c a2 h2 a3 h3 a4 h4 a6 h6 a7 h7 a38 a45 x0 x1 x2 x4 x5) (e2 c a2 h2 a3 h3 a4 h4 a6 h6 a7 h7 a38 a45 x0 x1 x2 x4 x5) (e3 c a2 h2 a3 h3 a4 h4 a6 h6 a7 h7 a38 a45 x0 x1 x2 x4 x5) (e4 c a2 h2 a3 h3 a4 h4 a6 h6 a7 h7 a38 a45 x0 x1 x2 x4 x5) (e5 c a2 h2 a3 h3 a4 h4 a6 h6 a7 h7 a38 a45 x0 x1 x2 x4 x5) (e6 c a2 h2 a3 h3 a4 h4 a6 h6 a7 h7 a38 a45 x0 x1 x2 x4 x5) (e7 c a2 h2 a3 h3 a4 h4 a6 h6 a7 h7 a38 a45 x0 x1 x2 x4 x5) y).trans ?_
  unfold ueS keepS
  by_cases h : (y 1).val < 7
  · rw [if_pos (by omega), if_pos h]
    exact N4_congr x2 rfl (by omega) rfl rfl
  · rw [if_neg (by omega), if_neg h, show 9 + (y 1).val - 16 = (y 1).val - 7 by omega]
    rfl

end RB

end Cert.Mix

end
-- ==== Proof.MixKeep.lean ====
/-  What a grid point leaves of the pool's state: the prompt's kept rows and the sample's. -/
module

public import proofs.«01_k».proof.Proof.MixPool

@[expose] public section

set_option maxRecDepth 16384

noncomputable section

open Idealize.ShloMosaic Idealize.ShloMosaic.TcCoe Idealize.SL.Sem
open Cert.KernelIdeal Cert.KernelIdeal.Gen

namespace Cert.Mix

/-- One piece over the whole block covers it. -/
theorem covers1 (w : FVec Ideal S1x1x15x512 .f32) (y : S1x1x15x512.Idx) :
    Covers (s := S1x1x15x512) (e := .f32) [⟨Rect.unit ![0, 0, 0, 0] S1x1x15x512.size inb_S1x1x15x512_S1x1x15x512_0_0_0_0, w⟩] y :=
  covers_of_within rfl ![0, 0, 0, 0] ![1, 1, 15, 512] rfl y fun a => by
    match a with
    | ⟨0, _⟩ => exact ⟨Nat.zero_le _, (Nat.zero_add 1).symm ▸ (y 0).isLt⟩
    | ⟨1, _⟩ => exact ⟨Nat.zero_le _, (Nat.zero_add 1).symm ▸ (y 1).isLt⟩
    | ⟨2, _⟩ => exact ⟨Nat.zero_le _, (Nat.zero_add 15).symm ▸ (y 2).isLt⟩
    | ⟨3, _⟩ => exact ⟨Nat.zero_le _, (Nat.zero_add 512).symm ▸ (y 3).isLt⟩

/-- What one piece over the whole block leaves is its payload. -/
theorem canon1 (w : FVec Ideal S1x1x15x512 .f32) :
    View.canon (Val := Elt Ideal) (s := S1x1x15x512) (e := .f32) [⟨Rect.unit ![0, 0, 0, 0] S1x1x15x512.size inb_S1x1x15x512_S1x1x15x512_0_0_0_0, w⟩] = w := by
  funext y
  have hy : (Rect.unit (s := S1x1x15x512) ![0, 0, 0, 0] S1x1x15x512.size inb_S1x1x15x512_S1x1x15x512_0_0_0_0).emb y = y := by
    funext a
    match a with
    | ⟨0, _⟩ => exact Fin.ext (by show 0 + 1 * (y 0).val = (y 0).val; omega)
    | ⟨1, _⟩ => exact Fin.ext (by show 0 + 1 * (y 1).val = (y 1).val; omega)
    | ⟨2, _⟩ => exact Fin.ext (by show 0 + 1 * (y 2).val = (y 2).val; omega)
    | ⟨3, _⟩ => exact Fin.ext (by show 0 + 1 * (y 3).val = (y 3).val; omega)
  conv_lhs => rw [← hy]
  exact View.canon_cons_emb _ _ _ _

/-- The prompt's kept rows, as the run leaves them. -/
theorem kept24_A (c : Dev nD) (i : grid0.Coords) (arg2 : Memref sig .tc .vmem S1x1024x1024 .f32) (harg2 : arg2.IsWhole) (arg3 : Memref sig .tc .vmem S64x1024 .f32) (harg3 : arg3.IsWhole) (arg4 : Memref sig .tc .vmem S1x15x8x512 .f32) (harg4 : arg4.IsWhole) (arg5 : Memref sig .tc .vmem S1x8x4x128x128 .f32) (harg5 : arg5.IsWhole) (arg6 : Memref sig .tc .vmem S2x1024 .f32) (harg6 : arg6.IsWhole) (arg7 : Memref sig .tc .vmem S1024x2560 .bf16) (harg7 : arg7.IsWhole) (arg8 : Memref sig .tc .vmem S2x512 .f32) (harg8 : arg8.IsWhole) (arg9 : Memref sig .tc .vmem S2x512 .f32) (harg9 : arg9.IsWhole) (arg10 : Memref sig .tc .vmem S1x1024x1024 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1x512 .f32) (harg15 : arg15.IsWhole) (arg16 : Memref sig .tc .vmem S4x128x128 .f32) (harg16 : arg16.IsWhole) (arg17 : Memref sig .tc .vmem S64x128 .f32) (harg17 : arg17.IsWhole) (arg18 : Memref sig .tc .vmem S64x128 .f32) (harg18 : arg18.IsWhole) (arg19 : Memref sig .tc .vmem S64x512 .f32) (harg19 : arg19.IsWhole) (arg20 : Memref sig .tc .vmem S64x512 .f32) (harg20 : arg20.IsWhole) (arg21 : Memref sig .tc .vmem S1x512 .f32) (harg21 : arg21.IsWhole) (arg22 : Memref sig .tc .vmem S4x64x64 .f32) (harg22 : arg22.IsWhole) (arg23 : Memref sig .tc .vmem S1x64x4096 .f32) (harg23 : arg23.IsWhole) (arg24 : Memref sig .tc .vmem S1x256x1024 .f32) (harg24 : arg24.IsWhole) (arg29 : Memref sig .tc .vmem S1x1024x1024 .f32) (harg29 : arg29.IsWhole) (arg30 : Memref sig .tc .vmem S1x1x15x512 .f32) (harg30 : arg30.IsWhole) (arg31 : Memref sig .tc .vmem S1x1x4x128x128 .f32) (harg31 : arg31.IsWhole) (arg32 : Memref sig .tc .vmem S1x15x8x512 .f32) (harg32 : arg32.IsWhole) (arg33 : Memref sig .tc .vmem S1x8x4x128x128 .f32) (harg33 : arg33.IsWhole) (arg34 : Memref sig .tc .vmem S64x1024 .f32) (harg34 : arg34.IsWhole) (arg35 : Memref sig .tc .vmem S64x4096 .bf16) (harg35 : arg35.IsWhole) (arg36 : Memref sig .tc .vmem S256x1024 .bf16) (harg36 : arg36.IsWhole) (arg37 : Memref sig .tc .vmem S1040x512 .f32) (harg37 : arg37.IsWhole) (arg38 : Memref sig .tc .vmem S640x1024 .bf16) (harg38 : arg38.IsWhole) (arg39 : Memref sig .tc .vmem S1024x512 .bf16) (harg39 : arg39.IsWhole) (arg40 : Memref sig .tc .vmem S8x512x128 .bf16) (harg40 : arg40.IsWhole) (arg41 : Memref sig .tc .vmem S8x512x128 .bf16) (harg41 : arg41.IsWhole) (arg42 : Memref sig .tc .vmem S1024x512 .bf16) (harg42 : arg42.IsWhole) (arg43 : Memref sig .tc .vmem S1024x512 .f32) (harg43 : arg43.IsWhole) (arg44 : Memref sig .tc .vmem S1088x1024 .bf16) (harg44 : arg44.IsWhole) (arg45 : Memref sig .tc .vmem S8x24x512 .f32) (harg45 : arg45.IsWhole) (arg46 : Memref sig .tc .vmem S64x512 .f32) (harg46 : arg46.IsWhole) (arg47 : Memref sig .tc .vmem S64x512 .f32) (harg47 : arg47.IsWhole) (arg48 : Memref sig .tc .vmem S64x512 .f32) (harg48 : arg48.IsWhole) (arg49 : Memref sig .tc .vmem S64x512 .f32) (harg49 : arg49.IsWhole) (arg50 : Memref sig .tc .vmem S64x512 .f32) (harg50 : arg50.IsWhole) (arg51 : Memref sig .tc .vmem S64x512 .f32) (harg51 : arg51.IsWhole) (arg52 : Memref sig .tc .vmem S64x512 .f32) (harg52 : arg52.IsWhole) (hc0 : cond0_0 i)
    (x0 : Vec Ideal S1x1024x1024 .f32) (x1 : Vec Ideal S64x1024 .f32) (x2 : Vec Ideal S1x15x8x512 .f32) (x3 : Vec Ideal S1x8x4x128x128 .f32) (x4 : Vec Ideal S2x1024 .f32) (x5 : Vec Ideal S1024x2560 .bf16) (x6 : Vec Ideal S2x512 .f32) (x7 : Vec Ideal S2x512 .f32) (x8 : Vec Ideal S1x1024x1024 .bf16) (x9 : Vec Ideal S1024x128 .f32) (x10 : Vec Ideal S1024x128 .f32) (x11 : Vec Ideal S128x512 .f32) (x12 : Vec Ideal S128x512 .f32) (x13 : Vec Ideal S1x512 .f32) (x14 : Vec Ideal S4x128x128 .f32) (x15 : Vec Ideal S64x128 .f32) (x16 : Vec Ideal S64x128 .f32) (x17 : Vec Ideal S64x512 .f32) (x18 : Vec Ideal S64x512 .f32) (x19 : Vec Ideal S1x512 .f32) (x20 : Vec Ideal S4x64x64 .f32) (x21 : Vec Ideal S1x64x4096 .f32) (x22 : Vec Ideal S1x256x1024 .f32) :
    (∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22).2.1, y ∈ p.1.set)
      ∧ View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22).2.1 = keepP x0 x4 x5 := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22).2.1 = [⟨Rect.unit ![0, 0, 0, 0] S1x1x15x512.size inb_S1x1x15x512_S1x1x15x512_0_0_0_0, k0_pay1 (F := Ideal) (kernelRun0_A.sl.v4823 (F := Ideal) c arg2 harg2 arg3 harg3 arg6 harg6 arg7 harg7 arg37 arg38 x0 x1 x4 x5)⟩] := rfl
  rw [e]
  exact ⟨covers1 _, (canon1 _).trans (RA.prompt c arg2 harg2 arg3 harg3 arg6 harg6 arg7 harg7 arg37 arg38 x0 x1 x4 x5)⟩

/-- The sample's kept rows, as the run leaves them. -/
theorem kept26_A (c : Dev nD) (i : grid0.Coords) (arg2 : Memref sig .tc .vmem S1x1024x1024 .f32) (harg2 : arg2.IsWhole) (arg3 : Memref sig .tc .vmem S64x1024 .f32) (harg3 : arg3.IsWhole) (arg4 : Memref sig .tc .vmem S1x15x8x512 .f32) (harg4 : arg4.IsWhole) (arg5 : Memref sig .tc .vmem S1x8x4x128x128 .f32) (harg5 : arg5.IsWhole) (arg6 : Memref sig .tc .vmem S2x1024 .f32) (harg6 : arg6.IsWhole) (arg7 : Memref sig .tc .vmem S1024x2560 .bf16) (harg7 : arg7.IsWhole) (arg8 : Memref sig .tc .vmem S2x512 .f32) (harg8 : arg8.IsWhole) (arg9 : Memref sig .tc .vmem S2x512 .f32) (harg9 : arg9.IsWhole) (arg10 : Memref sig .tc .vmem S1x1024x1024 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1x512 .f32) (harg15 : arg15.IsWhole) (arg16 : Memref sig .tc .vmem S4x128x128 .f32) (harg16 : arg16.IsWhole) (arg17 : Memref sig .tc .vmem S64x128 .f32) (harg17 : arg17.IsWhole) (arg18 : Memref sig .tc .vmem S64x128 .f32) (harg18 : arg18.IsWhole) (arg19 : Memref sig .tc .vmem S64x512 .f32) (harg19 : arg19.IsWhole) (arg20 : Memref sig .tc .vmem S64x512 .f32) (harg20 : arg20.IsWhole) (arg21 : Memref sig .tc .vmem S1x512 .f32) (harg21 : arg21.IsWhole) (arg22 : Memref sig .tc .vmem S4x64x64 .f32) (harg22 : arg22.IsWhole) (arg23 : Memref sig .tc .vmem S1x64x4096 .f32) (harg23 : arg23.IsWhole) (arg24 : Memref sig .tc .vmem S1x256x1024 .f32) (harg24 : arg24.IsWhole) (arg29 : Memref sig .tc .vmem S1x1024x1024 .f32) (harg29 : arg29.IsWhole) (arg30 : Memref sig .tc .vmem S1x1x15x512 .f32) (harg30 : arg30.IsWhole) (arg31 : Memref sig .tc .vmem S1x1x4x128x128 .f32) (harg31 : arg31.IsWhole) (arg32 : Memref sig .tc .vmem S1x15x8x512 .f32) (harg32 : arg32.IsWhole) (arg33 : Memref sig .tc .vmem S1x8x4x128x128 .f32) (harg33 : arg33.IsWhole) (arg34 : Memref sig .tc .vmem S64x1024 .f32) (harg34 : arg34.IsWhole) (arg35 : Memref sig .tc .vmem S64x4096 .bf16) (harg35 : arg35.IsWhole) (arg36 : Memref sig .tc .vmem S256x1024 .bf16) (harg36 : arg36.IsWhole) (arg37 : Memref sig .tc .vmem S1040x512 .f32) (harg37 : arg37.IsWhole) (arg38 : Memref sig .tc .vmem S640x1024 .bf16) (harg38 : arg38.IsWhole) (arg39 : Memref sig .tc .vmem S1024x512 .bf16) (harg39 : arg39.IsWhole) (arg40 : Memref sig .tc .vmem S8x512x128 .bf16) (harg40 : arg40.IsWhole) (arg41 : Memref sig .tc .vmem S8x512x128 .bf16) (harg41 : arg41.IsWhole) (arg42 : Memref sig .tc .vmem S1024x512 .bf16) (harg42 : arg42.IsWhole) (arg43 : Memref sig .tc .vmem S1024x512 .f32) (harg43 : arg43.IsWhole) (arg44 : Memref sig .tc .vmem S1088x1024 .bf16) (harg44 : arg44.IsWhole) (arg45 : Memref sig .tc .vmem S8x24x512 .f32) (harg45 : arg45.IsWhole) (arg46 : Memref sig .tc .vmem S64x512 .f32) (harg46 : arg46.IsWhole) (arg47 : Memref sig .tc .vmem S64x512 .f32) (harg47 : arg47.IsWhole) (arg48 : Memref sig .tc .vmem S64x512 .f32) (harg48 : arg48.IsWhole) (arg49 : Memref sig .tc .vmem S64x512 .f32) (harg49 : arg49.IsWhole) (arg50 : Memref sig .tc .vmem S64x512 .f32) (harg50 : arg50.IsWhole) (arg51 : Memref sig .tc .vmem S64x512 .f32) (harg51 : arg51.IsWhole) (arg52 : Memref sig .tc .vmem S64x512 .f32) (harg52 : arg52.IsWhole) (hc0 : cond0_0 i)
    (x0 : Vec Ideal S1x1024x1024 .f32) (x1 : Vec Ideal S64x1024 .f32) (x2 : Vec Ideal S1x15x8x512 .f32) (x3 : Vec Ideal S1x8x4x128x128 .f32) (x4 : Vec Ideal S2x1024 .f32) (x5 : Vec Ideal S1024x2560 .bf16) (x6 : Vec Ideal S2x512 .f32) (x7 : Vec Ideal S2x512 .f32) (x8 : Vec Ideal S1x1024x1024 .bf16) (x9 : Vec Ideal S1024x128 .f32) (x10 : Vec Ideal S1024x128 .f32) (x11 : Vec Ideal S128x512 .f32) (x12 : Vec Ideal S128x512 .f32) (x13 : Vec Ideal S1x512 .f32) (x14 : Vec Ideal S4x128x128 .f32) (x15 : Vec Ideal S64x128 .f32) (x16 : Vec Ideal S64x128 .f32) (x17 : Vec Ideal S64x512 .f32) (x18 : Vec Ideal S64x512 .f32) (x19 : Vec Ideal S1x512 .f32) (x20 : Vec Ideal S4x64x64 .f32) (x21 : Vec Ideal S1x64x4096 .f32) (x22 : Vec Ideal S1x256x1024 .f32) :
    (∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22).2.2.2.1, y ∈ p.1.set)
      ∧ View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22).2.2.2.1 = keepS x1 x2 x4 x5 := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22).2.2.2.1 = [⟨Rect.unit ![0, 0, 7, 0] S1x15x1x512.size inb_S1x15x8x512_S1x15x1x512_0_0_7_0, k0_pay377 (F := Ideal) (kernelRun0_A.sl.v2770 c arg2 harg2 arg3 harg3 arg4 harg4 arg6 harg6 arg7 harg7 arg38 arg45 x0 x1 x2 x4 x5)⟩,
    ⟨Rect.unit ![0, 0, 6, 0] S1x15x1x512.size inb_S1x15x8x512_S1x15x1x512_0_0_6_0, k0_pay376 (F := Ideal) (kernelRun0_A.sl.v2765 c arg2 harg2 arg3 harg3 arg4 harg4 arg6 harg6 arg7 harg7 arg38 arg45 x0 x1 x2 x4 x5)⟩,
    ⟨Rect.unit ![0, 0, 5, 0] S1x15x1x512.size inb_S1x15x8x512_S1x15x1x512_0_0_5_0, k0_pay375 (F := Ideal) (kernelRun0_A.sl.v2761 c arg2 harg2 arg3 harg3 arg4 harg4 arg6 harg6 arg7 harg7 arg38 arg45 x0 x1 x2 x4 x5)⟩,
    ⟨Rect.unit ![0, 0, 4, 0] S1x15x1x512.size inb_S1x15x8x512_S1x15x1x512_0_0_4_0, kernelRun0_A.sl.v2759 (F := Ideal) c arg2 harg2 arg3 harg3 arg4 harg4 arg6 harg6 arg7 harg7 arg38 arg45 x0 x1 x2 x4 x5⟩,
    ⟨Rect.unit ![0, 0, 3, 0] S1x15x1x512.size inb_S1x15x8x512_S1x15x1x512_0_0_3_0, kernelRun0_A.sl.v2754 (F := Ideal) c arg2 harg2 arg3 harg3 arg4 harg4 arg6 harg6 arg7 harg7 arg38 arg45 x0 x1 x2 x4 x5⟩,
    ⟨Rect.unit ![0, 0, 2, 0] S1x15x1x512.size inb_S1x15x8x512_S1x15x1x512_0_0_2_0, kernelRun0_A.sl.v2749 (F := Ideal) c arg2 harg2 arg3 harg3 arg4 harg4 arg6 harg6 arg7 harg7 arg38 arg45 x0 x1 x2 x4 x5⟩,
    ⟨Rect.unit ![0, 0, 1, 0] S1x15x1x512.size inb_S1x15x8x512_S1x15x1x512_0_0_1_0, kernelRun0_A.sl.v2744 (F := Ideal) c arg2 harg2 arg3 harg3 arg4 harg4 arg6 harg6 arg7 harg7 arg38 arg45 x0 x1 x2 x4 x5⟩,
    ⟨Rect.unit ![0, 0, 0, 0] S1x15x1x512.size inb_S1x15x8x512_S1x15x1x512_0_0_0_0, k0_pay369 (F := Ideal) (kernelRun0_A.sl.v2735 c arg2 harg2 arg3 harg3 arg4 harg4 arg6 harg6 arg7 harg7 arg38 arg45 x0 x1 x2 x4 x5)⟩] := rfl
  rw [e]
  exact ⟨covers8 _ _ _ _ _ _ _ _, funext (RA.sample c arg2 harg2 arg3 harg3 arg4 harg4 arg6 harg6 arg7 harg7 arg38 arg45 x0 x1 x2 x4 x5)⟩

/-- The prompt's kept rows, as the run leaves them. -/
theorem kept24_B (c : Dev nD) (i : grid0.Coords) (arg2 : Memref sig .tc .vmem S1x1024x1024 .f32) (harg2 : arg2.IsWhole) (arg3 : Memref sig .tc .vmem S64x1024 .f32) (harg3 : arg3.IsWhole) (arg4 : Memref sig .tc .vmem S1x15x8x512 .f32) (harg4 : arg4.IsWhole) (arg5 : Memref sig .tc .vmem S1x8x4x128x128 .f32) (harg5 : arg5.IsWhole) (arg6 : Memref sig .tc .vmem S2x1024 .f32) (harg6 : arg6.IsWhole) (arg7 : Memref sig .tc .vmem S1024x2560 .bf16) (harg7 : arg7.IsWhole) (arg8 : Memref sig .tc .vmem S2x512 .f32) (harg8 : arg8.IsWhole) (arg9 : Memref sig .tc .vmem S2x512 .f32) (harg9 : arg9.IsWhole) (arg10 : Memref sig .tc .vmem S1x1024x1024 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1x512 .f32) (harg15 : arg15.IsWhole) (arg16 : Memref sig .tc .vmem S4x128x128 .f32) (harg16 : arg16.IsWhole) (arg17 : Memref sig .tc .vmem S64x128 .f32) (harg17 : arg17.IsWhole) (arg18 : Memref sig .tc .vmem S64x128 .f32) (harg18 : arg18.IsWhole) (arg19 : Memref sig .tc .vmem S64x512 .f32) (harg19 : arg19.IsWhole) (arg20 : Memref sig .tc .vmem S64x512 .f32) (harg20 : arg20.IsWhole) (arg21 : Memref sig .tc .vmem S1x512 .f32) (harg21 : arg21.IsWhole) (arg22 : Memref sig .tc .vmem S4x64x64 .f32) (harg22 : arg22.IsWhole) (arg23 : Memref sig .tc .vmem S1x64x4096 .f32) (harg23 : arg23.IsWhole) (arg24 : Memref sig .tc .vmem S1x256x1024 .f32) (harg24 : arg24.IsWhole) (arg29 : Memref sig .tc .vmem S1x1024x1024 .f32) (harg29 : arg29.IsWhole) (arg30 : Memref sig .tc .vmem S1x1x15x512 .f32) (harg30 : arg30.IsWhole) (arg31 : Memref sig .tc .vmem S1x1x4x128x128 .f32) (harg31 : arg31.IsWhole) (arg32 : Memref sig .tc .vmem S1x15x8x512 .f32) (harg32 : arg32.IsWhole) (arg33 : Memref sig .tc .vmem S1x8x4x128x128 .f32) (harg33 : arg33.IsWhole) (arg34 : Memref sig .tc .vmem S64x1024 .f32) (harg34 : arg34.IsWhole) (arg35 : Memref sig .tc .vmem S64x4096 .bf16) (harg35 : arg35.IsWhole) (arg36 : Memref sig .tc .vmem S256x1024 .bf16) (harg36 : arg36.IsWhole) (arg37 : Memref sig .tc .vmem S1040x512 .f32) (harg37 : arg37.IsWhole) (arg38 : Memref sig .tc .vmem S640x1024 .bf16) (harg38 : arg38.IsWhole) (arg39 : Memref sig .tc .vmem S1024x512 .bf16) (harg39 : arg39.IsWhole) (arg40 : Memref sig .tc .vmem S8x512x128 .bf16) (harg40 : arg40.IsWhole) (arg41 : Memref sig .tc .vmem S8x512x128 .bf16) (harg41 : arg41.IsWhole) (arg42 : Memref sig .tc .vmem S1024x512 .bf16) (harg42 : arg42.IsWhole) (arg43 : Memref sig .tc .vmem S1024x512 .f32) (harg43 : arg43.IsWhole) (arg44 : Memref sig .tc .vmem S1088x1024 .bf16) (harg44 : arg44.IsWhole) (arg45 : Memref sig .tc .vmem S8x24x512 .f32) (harg45 : arg45.IsWhole) (arg46 : Memref sig .tc .vmem S64x512 .f32) (harg46 : arg46.IsWhole) (arg47 : Memref sig .tc .vmem S64x512 .f32) (harg47 : arg47.IsWhole) (arg48 : Memref sig .tc .vmem S64x512 .f32) (harg48 : arg48.IsWhole) (arg49 : Memref sig .tc .vmem S64x512 .f32) (harg49 : arg49.IsWhole) (arg50 : Memref sig .tc .vmem S64x512 .f32) (harg50 : arg50.IsWhole) (arg51 : Memref sig .tc .vmem S64x512 .f32) (harg51 : arg51.IsWhole) (arg52 : Memref sig .tc .vmem S64x512 .f32) (harg52 : arg52.IsWhole) (hc0 : ¬cond0_0 i)
    (x0 : Vec Ideal S1x1024x1024 .f32) (x1 : Vec Ideal S64x1024 .f32) (x2 : Vec Ideal S1x15x8x512 .f32) (x3 : Vec Ideal S1x8x4x128x128 .f32) (x4 : Vec Ideal S2x1024 .f32) (x5 : Vec Ideal S1024x2560 .bf16) (x6 : Vec Ideal S2x512 .f32) (x7 : Vec Ideal S2x512 .f32) (x8 : Vec Ideal S1x1024x1024 .bf16) (x9 : Vec Ideal S1024x128 .f32) (x10 : Vec Ideal S1024x128 .f32) (x11 : Vec Ideal S128x512 .f32) (x12 : Vec Ideal S128x512 .f32) (x13 : Vec Ideal S1x512 .f32) (x14 : Vec Ideal S4x128x128 .f32) (x15 : Vec Ideal S64x128 .f32) (x16 : Vec Ideal S64x128 .f32) (x17 : Vec Ideal S64x512 .f32) (x18 : Vec Ideal S64x512 .f32) (x19 : Vec Ideal S1x512 .f32) (x20 : Vec Ideal S4x64x64 .f32) (x21 : Vec Ideal S1x64x4096 .f32) (x22 : Vec Ideal S1x256x1024 .f32) (xo25 : Vec Ideal S1x1x4x128x128 .f32) (xs0 : Vec Ideal S1040x512 .f32) :
    (∀ y, ∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22 xo25 xs0).2.1, y ∈ p.1.set)
      ∧ View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22 xo25 xs0).2.1 = keepP x0 x4 x5 := by
  have e : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22 xo25 xs0).2.1 = [⟨Rect.unit ![0, 0, 0, 0] S1x1x15x512.size inb_S1x1x15x512_S1x1x15x512_0_0_0_0, k0_pay1 (F := Ideal) (kernelRun0_B.sl.v4823 (F := Ideal) c arg2 harg2 arg3 harg3 arg6 harg6 arg7 harg7 arg37 arg38 x0 x1 x4 x5)⟩] := rfl
  rw [e]
  exact ⟨covers1 _, (canon1 _).trans (RB.prompt c arg2 harg2 arg3 harg3 arg6 harg6 arg7 harg7 arg37 arg38 x0 x1 x4 x5)⟩

/-- The sample's kept rows, as the run leaves them. -/
theorem kept26_B (c : Dev nD) (i : grid0.Coords) (arg2 : Memref sig .tc .vmem S1x1024x1024 .f32) (harg2 : arg2.IsWhole) (arg3 : Memref sig .tc .vmem S64x1024 .f32) (harg3 : arg3.IsWhole) (arg4 : Memref sig .tc .vmem S1x15x8x512 .f32) (harg4 : arg4.IsWhole) (arg5 : Memref sig .tc .vmem S1x8x4x128x128 .f32) (harg5 : arg5.IsWhole) (arg6 : Memref sig .tc .vmem S2x1024 .f32) (harg6 : arg6.IsWhole) (arg7 : Memref sig .tc .vmem S1024x2560 .bf16) (harg7 : arg7.IsWhole) (arg8 : Memref sig .tc .vmem S2x512 .f32) (harg8 : arg8.IsWhole) (arg9 : Memref sig .tc .vmem S2x512 .f32) (harg9 : arg9.IsWhole) (arg10 : Memref sig .tc .vmem S1x1024x1024 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1x512 .f32) (harg15 : arg15.IsWhole) (arg16 : Memref sig .tc .vmem S4x128x128 .f32) (harg16 : arg16.IsWhole) (arg17 : Memref sig .tc .vmem S64x128 .f32) (harg17 : arg17.IsWhole) (arg18 : Memref sig .tc .vmem S64x128 .f32) (harg18 : arg18.IsWhole) (arg19 : Memref sig .tc .vmem S64x512 .f32) (harg19 : arg19.IsWhole) (arg20 : Memref sig .tc .vmem S64x512 .f32) (harg20 : arg20.IsWhole) (arg21 : Memref sig .tc .vmem S1x512 .f32) (harg21 : arg21.IsWhole) (arg22 : Memref sig .tc .vmem S4x64x64 .f32) (harg22 : arg22.IsWhole) (arg23 : Memref sig .tc .vmem S1x64x4096 .f32) (harg23 : arg23.IsWhole) (arg24 : Memref sig .tc .vmem S1x256x1024 .f32) (harg24 : arg24.IsWhole) (arg29 : Memref sig .tc .vmem S1x1024x1024 .f32) (harg29 : arg29.IsWhole) (arg30 : Memref sig .tc .vmem S1x1x15x512 .f32) (harg30 : arg30.IsWhole) (arg31 : Memref sig .tc .vmem S1x1x4x128x128 .f32) (harg31 : arg31.IsWhole) (arg32 : Memref sig .tc .vmem S1x15x8x512 .f32) (harg32 : arg32.IsWhole) (arg33 : Memref sig .tc .vmem S1x8x4x128x128 .f32) (harg33 : arg33.IsWhole) (arg34 : Memref sig .tc .vmem S64x1024 .f32) (harg34 : arg34.IsWhole) (arg35 : Memref sig .tc .vmem S64x4096 .bf16) (harg35 : arg35.IsWhole) (arg36 : Memref sig .tc .vmem S256x1024 .bf16) (harg36 : arg36.IsWhole) (arg37 : Memref sig .tc .vmem S1040x512 .f32) (harg37 : arg37.IsWhole) (arg38 : Memref sig .tc .vmem S640x1024 .bf16) (harg38 : arg38.IsWhole) (arg39 : Memref sig .tc .vmem S1024x512 .bf16) (harg39 : arg39.IsWhole) (arg40 : Memref sig .tc .vmem S8x512x128 .bf16) (harg40 : arg40.IsWhole) (arg41 : Memref sig .tc .vmem S8x512x128 .bf16) (harg41 : arg41.IsWhole) (arg42 : Memref sig .tc .vmem S1024x512 .bf16) (harg42 : arg42.IsWhole) (arg43 : Memref sig .tc .vmem S1024x512 .f32) (harg43 : arg43.IsWhole) (arg44 : Memref sig .tc .vmem S1088x1024 .bf16) (harg44 : arg44.IsWhole) (arg45 : Memref sig .tc .vmem S8x24x512 .f32) (harg45 : arg45.IsWhole) (arg46 : Memref sig .tc .vmem S64x512 .f32) (harg46 : arg46.IsWhole) (arg47 : Memref sig .tc .vmem S64x512 .f32) (harg47 : arg47.IsWhole) (arg48 : Memref sig .tc .vmem S64x512 .f32) (harg48 : arg48.IsWhole) (arg49 : Memref sig .tc .vmem S64x512 .f32) (harg49 : arg49.IsWhole) (arg50 : Memref sig .tc .vmem S64x512 .f32) (harg50 : arg50.IsWhole) (arg51 : Memref sig .tc .vmem S64x512 .f32) (harg51 : arg51.IsWhole) (arg52 : Memref sig .tc .vmem S64x512 .f32) (harg52 : arg52.IsWhole) (hc0 : ¬cond0_0 i)
    (x0 : Vec Ideal S1x1024x1024 .f32) (x1 : Vec Ideal S64x1024 .f32) (x2 : Vec Ideal S1x15x8x512 .f32) (x3 : Vec Ideal S1x8x4x128x128 .f32) (x4 : Vec Ideal S2x1024 .f32) (x5 : Vec Ideal S1024x2560 .bf16) (x6 : Vec Ideal S2x512 .f32) (x7 : Vec Ideal S2x512 .f32) (x8 : Vec Ideal S1x1024x1024 .bf16) (x9 : Vec Ideal S1024x128 .f32) (x10 : Vec Ideal S1024x128 .f32) (x11 : Vec Ideal S128x512 .f32) (x12 : Vec Ideal S128x512 .f32) (x13 : Vec Ideal S1x512 .f32) (x14 : Vec Ideal S4x128x128 .f32) (x15 : Vec Ideal S64x128 .f32) (x16 : Vec Ideal S64x128 .f32) (x17 : Vec Ideal S64x512 .f32) (x18 : Vec Ideal S64x512 .f32) (x19 : Vec Ideal S1x512 .f32) (x20 : Vec Ideal S4x64x64 .f32) (x21 : Vec Ideal S1x64x4096 .f32) (x22 : Vec Ideal S1x256x1024 .f32) (xo25 : Vec Ideal S1x1x4x128x128 .f32) (xs0 : Vec Ideal S1040x512 .f32) :
    (∀ y, ∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22 xo25 xs0).2.2.2.1, y ∈ p.1.set)
      ∧ View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22 xo25 xs0).2.2.2.1 = keepS x1 x2 x4 x5 := by
  have e : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 hc0 x0 x1 x2 x3 x4 x5 x6 x7 x8 x9 x10 x11 x12 x13 x14 x15 x16 x17 x18 x19 x20 x21 x22 xo25 xs0).2.2.2.1 = [⟨Rect.unit ![0, 0, 7, 0] S1x15x1x512.size inb_S1x15x8x512_S1x15x1x512_0_0_7_0, k0_pay377 (F := Ideal) (kernelRun0_B.sl.v2770 c arg2 harg2 arg3 harg3 arg4 harg4 arg6 harg6 arg7 harg7 arg38 arg45 x0 x1 x2 x4 x5)⟩,
    ⟨Rect.unit ![0, 0, 6, 0] S1x15x1x512.size inb_S1x15x8x512_S1x15x1x512_0_0_6_0, k0_pay376 (F := Ideal) (kernelRun0_B.sl.v2765 c arg2 harg2 arg3 harg3 arg4 harg4 arg6 harg6 arg7 harg7 arg38 arg45 x0 x1 x2 x4 x5)⟩,
    ⟨Rect.unit ![0, 0, 5, 0] S1x15x1x512.size inb_S1x15x8x512_S1x15x1x512_0_0_5_0, k0_pay375 (F := Ideal) (kernelRun0_B.sl.v2761 c arg2 harg2 arg3 harg3 arg4 harg4 arg6 harg6 arg7 harg7 arg38 arg45 x0 x1 x2 x4 x5)⟩,
    ⟨Rect.unit ![0, 0, 4, 0] S1x15x1x512.size inb_S1x15x8x512_S1x15x1x512_0_0_4_0, kernelRun0_B.sl.v2759 (F := Ideal) c arg2 harg2 arg3 harg3 arg4 harg4 arg6 harg6 arg7 harg7 arg38 arg45 x0 x1 x2 x4 x5⟩,
    ⟨Rect.unit ![0, 0, 3, 0] S1x15x1x512.size inb_S1x15x8x512_S1x15x1x512_0_0_3_0, kernelRun0_B.sl.v2754 (F := Ideal) c arg2 harg2 arg3 harg3 arg4 harg4 arg6 harg6 arg7 harg7 arg38 arg45 x0 x1 x2 x4 x5⟩,
    ⟨Rect.unit ![0, 0, 2, 0] S1x15x1x512.size inb_S1x15x8x512_S1x15x1x512_0_0_2_0, kernelRun0_B.sl.v2749 (F := Ideal) c arg2 harg2 arg3 harg3 arg4 harg4 arg6 harg6 arg7 harg7 arg38 arg45 x0 x1 x2 x4 x5⟩,
    ⟨Rect.unit ![0, 0, 1, 0] S1x15x1x512.size inb_S1x15x8x512_S1x15x1x512_0_0_1_0, kernelRun0_B.sl.v2744 (F := Ideal) c arg2 harg2 arg3 harg3 arg4 harg4 arg6 harg6 arg7 harg7 arg38 arg45 x0 x1 x2 x4 x5⟩,
    ⟨Rect.unit ![0, 0, 0, 0] S1x15x1x512.size inb_S1x15x8x512_S1x15x1x512_0_0_0_0, k0_pay369 (F := Ideal) (kernelRun0_B.sl.v2735 c arg2 harg2 arg3 harg3 arg4 harg4 arg6 harg6 arg7 harg7 arg38 arg45 x0 x1 x2 x4 x5)⟩] := rfl
  rw [e]
  exact ⟨covers8 _ _ _ _ _ _ _ _, funext (RB.sample c arg2 harg2 arg3 harg3 arg4 harg4 arg6 harg6 arg7 harg7 arg38 arg45 x0 x1 x2 x4 x5)⟩

end Cert.Mix

end
-- ==== Proof.WholeKernelIdeal.lean ====
/-  The frame of the mixer's call, assembled from the runs of its two cases: the body at every point, the launch, and the
    frame. Of the outputs, the two that keep the pool's state are named; nothing is stated of what the others hold. -/
module

public import proofs.«01_k».proof.Proof.MixKeep
public import proofs.«01_k».proof.Proof.Gen.KernelIdeal.Frame.RunB
public import Idealize.ShloMosaic.Lib.Claim

@[expose] public section

set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- The output windows of whose contents nothing is stated. -/
def forgets0 : Fin 31 → Bool := fun w => w.val == 23 || w.val == 25 || w.val == 27 || w.val == 28 || w.val == 29 || w.val == 30

/-- The proof data of the pipeline on core `c`: the arrays as the launch finds them, each input's buffer at its block after
    every point, the pool's two states at the rows kept, the other outputs unnamed, every scratch at anything between points. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, h⟩ => Pipeline.Dat.unnamed (cfg := cfg0) ⟨23, h⟩ t
    | ⟨24, _⟩ => Mix.keepP (iblk m c 0 t) (iblk m c 4 t) (iblk m c 5 t)
    | ⟨25, h⟩ => Pipeline.Dat.unnamed (cfg := cfg0) ⟨25, h⟩ t
    | ⟨26, _⟩ => Mix.keepS (iblk m c 1 t) (iblk m c 2 t) (iblk m c 4 t) (iblk m c 5 t)
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨30, h⟩ => Pipeline.Dat.unnamed (cfg := cfg0) ⟨30, h⟩ t
    | ⟨_ + 31, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_24 (c : Dev nD) (t : Fin cfg0.N) :
    (dats m 0 c).after 24 t = Mix.keepP (iblk m c 0 t) (iblk m c 4 t) (iblk m c 5 t) := by dsimp only [dats]
theorem after0_26 (c : Dev nD) (t : Fin cfg0.N) :
    (dats m 0 c).after 26 t = Mix.keepS (iblk m c 1 t) (iblk m c 2 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare d)
    ∗ (∃ d, owns (c : Thread nD τ) (ms0_24 t) fullShare ((dats m 0 c).before 24 t d))
    ∗ (∃ d, owns (c : Thread nD τ) (ms0_25 t) fullShare d)
    ∗ (∃ d, owns (c : Thread nD τ) (ms0_26 t) fullShare ((dats m 0 c).before 26 t d))
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ (∃ d, owns (c : Thread nD τ) (ms0_23 t) fullShare d)
    ∗ owns (c : Thread nD τ) (ms0_24 t) fullShare ((dats m 0 c).after 24 t)
    ∗ (∃ d, owns (c : Thread nD τ) (ms0_25 t) fullShare d)
    ∗ owns (c : Thread nD τ) (ms0_26 t) fullShare ((dats m 0 c).after 26 t)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d))

set_option maxHeartbeats 35200000 in
/-- The body at any point: the run of the case the point is in, applied to the inputs' blocks, whatever the outputs and the
    scratch hold. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_24, after0_26]
  rw [show (dats m 0 c).Φ t.succ = Pipeline.ΦA spec0 c from rfl,
    show (dats m 0 c).Φ t.castSucc = Pipeline.ΦA spec0 c from rfl, PhiA0_eq]
  by_cases h0 : t.val % 2 = 0
  · iintro ⟨⟨⟨HS0, HS1, HS2, HS3, HS4, HS5, HS6, HS7, HS8, HS9, HS10, HS11, HS12, HS13, HS14, HS15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
    have h24 := Mix.kept24_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    have h26 := Mix.kept26_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    revert h24 h26
    generalize kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) = run
    intro h24 h26
    obtain ⟨L23, L24, L25, L26, L27, L28, L29, L30, M0, M1, M2, M3, M4, M5, M6, M7, M8, M9, M10, M11, M12, M13, M14, M15, hrun⟩ := run
    obtain ⟨g24, h24⟩ := h24
    obtain ⟨g26, h26⟩ := h26
    iapply hrun Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%e27, H27⟩, ⟨%e28, H28⟩, ⟨%e29, H29⟩, ⟨%e30, H30⟩, ⟨%f0, HS0⟩, ⟨%f1, HS1⟩, ⟨%f2, HS2⟩, ⟨%f3, HS3⟩, ⟨%f4, HS4⟩, ⟨%f5, HS5⟩, ⟨%f6, HS6⟩, ⟨%f7, HS7⟩, ⟨%f8, HS8⟩, ⟨%f9, HS9⟩, ⟨%f10, HS10⟩, ⟨%f11, HS11⟩, ⟨%f12, HS12⟩, ⟨%f13, HS13⟩, ⟨%f14, HS14⟩, ⟨%f15, HS15⟩⟩
    isplitl [HS0 HS1 HS2 HS3 HS4 HS5 HS6 HS7 HS8 HS9 HS10 HS11 HS12 HS13 HS14 HS15 Hg]
    · isplitl [HS0 HS1 HS2 HS3 HS4 HS5 HS6 HS7 HS8 HS9 HS10 HS11 HS12 HS13 HS14 HS15]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        isplitl [HS5]
        · iexists _; unfold owns; iexists _; isplitr
          swap; · iexact HS5
          ipureintro; rfl
        isplitl [HS6]
        · iexists _; unfold owns; iexists _; isplitr
          swap; · iexact HS6
          ipureintro; rfl
        isplitl [HS7]
        · iexists _; unfold owns; iexists _; isplitr
          swap; · iexact HS7
          ipureintro; rfl
        isplitl [HS8]
        · iexists _; unfold owns; iexists _; isplitr
          swap; · iexact HS8
          ipureintro; rfl
        isplitl [HS9]
        · iexists _; unfold owns; iexists _; isplitr
          swap; · iexact HS9
          ipureintro; rfl
        isplitl [HS10]
        · iexists _; unfold owns; iexists _; isplitr
          swap; · iexact HS10
          ipureintro; rfl
        isplitl [HS11]
        · iexists _; unfold owns; iexists _; isplitr
          swap; · iexact HS11
          ipureintro; rfl
        isplitl [HS12]
        · iexists _; unfold owns; iexists _; isplitr
          swap; · iexact HS12
          ipureintro; rfl
        isplitl [HS13]
        · iexists _; unfold owns; iexists _; isplitr
          swap; · iexact HS13
          ipureintro; rfl
        isplitl [HS14]
        · iexists _; unfold owns; iexists _; isplitr
          swap; · iexact HS14
          ipureintro; rfl
        iexists _; unfold owns; iexists _; isplitr
        swap; · iexact HS15
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]
    · iexists _; unfold owns; iexists _; isplitr
      swap; · iexact H23
      ipureintro; rfl
    isplitl [H24]
    · unfold owns; iexists _; isplitr
      swap; · iexact H24
      ipureintro; exact (View.read_writes_eq_canon _ _ _ g24).trans h24
    isplitl [H25]
    · iexists _; unfold owns; iexists _; isplitr
      swap; · iexact H25
      ipureintro; rfl
    isplitl [H26]
    · unfold owns; iexists _; isplitr
      swap; · iexact H26
      ipureintro; exact (View.read_writes_eq_canon _ _ _ g26).trans h26
    isplitl [H27]
    · iexists _; unfold owns; iexists _; isplitr
      swap; · iexact H27
      ipureintro; rfl
    isplitl [H28]
    · iexists _; unfold owns; iexists _; isplitr
      swap; · iexact H28
      ipureintro; rfl
    isplitl [H29]
    · iexists _; unfold owns; iexists _; isplitr
      swap; · iexact H29
      ipureintro; rfl
    iexists _; unfold owns; iexists _; isplitr
    swap; · iexact H30
    ipureintro; rfl
  · iintro ⟨⟨⟨⟨%ds0, HS0⟩, HS1, HS2, HS3, HS4, HS5, HS6, HS7, HS8, HS9, HS10, HS11, HS12, HS13, HS14, HS15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
    have h24 := Mix.kept24_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) d25 ds0
    have h26 := Mix.kept26_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) d25 ds0
    revert h24 h26
    generalize kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) d25 ds0 = run
    intro h24 h26
    obtain ⟨L23, L24, L25, L26, L27, L28, L29, L30, M0, M1, M2, M3, M4, M5, M6, M7, M8, M9, M10, M11, M12, M13, M14, M15, hrun⟩ := run
    obtain ⟨g24, h24⟩ := h24
    obtain ⟨g26, h26⟩ := h26
    iapply hrun Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [H25]; · iexact H25
    isplitl [H26]; · iexists _; iexact H26
    isplitl [H27]; · iexists _; iexact H27
    isplitl [H28]; · iexists _; iexact H28
    isplitl [H29]; · iexists _; iexact H29
    isplitl [H30]; · iexists _; iexact H30
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%e27, H27⟩, ⟨%e28, H28⟩, ⟨%e29, H29⟩, ⟨%e30, H30⟩, ⟨%f0, HS0⟩, ⟨%f1, HS1⟩, ⟨%f2, HS2⟩, ⟨%f3, HS3⟩, ⟨%f4, HS4⟩, ⟨%f5, HS5⟩, ⟨%f6, HS6⟩, ⟨%f7, HS7⟩, ⟨%f8, HS8⟩, ⟨%f9, HS9⟩, ⟨%f10, HS10⟩, ⟨%f11, HS11⟩, ⟨%f12, HS12⟩, ⟨%f13, HS13⟩, ⟨%f14, HS14⟩, ⟨%f15, HS15⟩⟩
    isplitl [HS0 HS1 HS2 HS3 HS4 HS5 HS6 HS7 HS8 HS9 HS10 HS11 HS12 HS13 HS14 HS15 Hg]
    · isplitl [HS0 HS1 HS2 HS3 HS4 HS5 HS6 HS7 HS8 HS9 HS10 HS11 HS12 HS13 HS14 HS15]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        isplitl [HS5]
        · iexists _; unfold owns; iexists _; isplitr
          swap; · iexact HS5
          ipureintro; rfl
        isplitl [HS6]
        · iexists _; unfold owns; iexists _; isplitr
          swap; · iexact HS6
          ipureintro; rfl
        isplitl [HS7]
        · iexists _; unfold owns; iexists _; isplitr
          swap; · iexact HS7
          ipureintro; rfl
        isplitl [HS8]
        · iexists _; unfold owns; iexists _; isplitr
          swap; · iexact HS8
          ipureintro; rfl
        isplitl [HS9]
        · iexists _; unfold owns; iexists _; isplitr
          swap; · iexact HS9
          ipureintro; rfl
        isplitl [HS10]
        · iexists _; unfold owns; iexists _; isplitr
          swap; · iexact HS10
          ipureintro; rfl
        isplitl [HS11]
        · iexists _; unfold owns; iexists _; isplitr
          swap; · iexact HS11
          ipureintro; rfl
        isplitl [HS12]
        · iexists _; unfold owns; iexists _; isplitr
          swap; · iexact HS12
          ipureintro; rfl
        isplitl [HS13]
        · iexists _; unfold owns; iexists _; isplitr
          swap; · iexact HS13
          ipureintro; rfl
        isplitl [HS14]
        · iexists _; unfold owns; iexists _; isplitr
          swap; · iexact HS14
          ipureintro; rfl
        iexists _; unfold owns; iexists _; isplitr
        swap; · iexact HS15
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]
    · iexists _; unfold owns; iexists _; isplitr
      swap; · iexact H23
      ipureintro; rfl
    isplitl [H24]
    · unfold owns; iexists _; isplitr
      swap; · iexact H24
      ipureintro; exact (View.read_writes_eq_canon _ _ _ g24).trans h24
    isplitl [H25]
    · iexists _; unfold owns; iexists _; isplitr
      swap; · iexact H25
      ipureintro; rfl
    isplitl [H26]
    · unfold owns; iexists _; isplitr
      swap; · iexact H26
      ipureintro; exact (View.read_writes_eq_canon _ _ _ g26).trans h26
    isplitl [H27]
    · iexists _; unfold owns; iexists _; isplitr
      swap; · iexact H27
      ipureintro; rfl
    isplitl [H28]
    · iexists _; unfold owns; iexists _; isplitr
      swap; · iexact H28
      ipureintro; rfl
    isplitl [H29]
    · iexists _; unfold owns; iexists _; isplitr
      swap; · iexact H29
      ipureintro; rfl
    iexists _; unfold owns; iexists _; isplitr
    swap; · iexact H30
    ipureintro; rfl

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

set_option maxHeartbeats 40000000 in
/-- The library's body obligation, at every point: the body's triple restated (Lib/Pipeline/FrameBody.lean `triple_restated`). -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-- What the launch hands the pipeline is the invariant. -/
theorem hin (c : Dev nD) : Pipeline.ΦA spec0 c ⊢ (dats m 0 c).Φ 0 := Idealize.SL.BI.Entails.refl _

/-- The invariant after the last point is what the launch takes back. -/
theorem hout (c : Dev nD) : (dats m 0 c).Φ (Fin.last cfg0.N) ⊢ Pipeline.ΦA spec0 c := Idealize.SL.BI.Entails.refl _

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, the pool's two states
    at the rows kept (windows 24, 26), nothing stated of the FORGOTTEN outputs (windows 23, 25, 27, 28, 29, 30) (Lib/Pipeline/Frame.lean `RDat.FramePost` over the proof data with those windows
    forgotten, Dat.lean `Dat.toRForget`), and every other unscoped buffer at its region-entry contents. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

set_option maxHeartbeats 8000000 in
/-- The argument arrays end as they were, after any run whose end the relational post describes. -/
theorem frame_of (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c)),
      (Pipeline.RDat.FramePost.arr_in h c 13 rfl).trans ((hA c 13).trans (V_main_arg13 m c)),
      (Pipeline.RDat.FramePost.arr_in h c 14 rfl).trans ((hA c 14).trans (V_main_arg14 m c)),
      (Pipeline.RDat.FramePost.arr_in h c 15 rfl).trans ((hA c 15).trans (V_main_arg15 m c)),
      (Pipeline.RDat.FramePost.arr_in h c 16 rfl).trans ((hA c 16).trans (V_main_arg16 m c)),
      (Pipeline.RDat.FramePost.arr_in h c 17 rfl).trans ((hA c 17).trans (V_main_arg17 m c)),
      (Pipeline.RDat.FramePost.arr_in h c 18 rfl).trans ((hA c 18).trans (V_main_arg18 m c)),
      (Pipeline.RDat.FramePost.arr_in h c 19 rfl).trans ((hA c 19).trans (V_main_arg19 m c)),
      (Pipeline.RDat.FramePost.arr_in h c 20 rfl).trans ((hA c 20).trans (V_main_arg20 m c)),
      (Pipeline.RDat.FramePost.arr_in h c 21 rfl).trans ((hA c 21).trans (V_main_arg21 m c)),
      (Pipeline.RDat.FramePost.arr_in h c 22 rfl).trans ((hA c 22).trans (V_main_arg22 m c)),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c)⟩) h

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Whole.frame_of m ρ (fun c => (dats m 0 c).toRForget forgets0) (A_eq m) (run_main m ρ)

/-- THE FRAME: the launch ends, the argument arrays are unchanged and no semaphore is left counting. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  θ_run_and (unchanged m ρ) ((θ_run defs _ _).mono (fun _ h => h.2) (run_main_quiescent m ρ))

end Cert.KernelIdeal.Whole

end
-- ==== Proof.FfnRow.lean ====
/-  The second half of the layer, one row at a time: the row function, and what each value the body computes is in terms
    of it.  Everything here is about real-extended numbers and literal-shape vectors; no memory, no grid. -/
module

public import proofs.«01_k».proof.Proof.Gen.Kernel2Ideal.Skeleton
public import Idealize.ShloMosaic.Lib.Pointwise

@[expose] public section

set_option maxRecDepth 16384

noncomputable section

open Idealize.ShloMosaic Idealize.ShloMosaic.TcCoe Idealize.SL.Sem
open Cert.Kernel2Ideal Cert.Kernel2Ideal.Gen

namespace Cert.Ffn

/-- A row divided by its root mean square, times the gain. -/
def rms (x g : Fin 1024 → EReal) (l : Fin 1024) : EReal :=
  x l * Ideal.rsqrt (Ideal.div (∑ k, x k * x k) (Ideal.ofBits .f32 0x44800000#32) + Ideal.ofBits .f32 0x358637BD#32) * g l

/-- One hidden unit of a normed row: the row against a column of the first weight, its negative part dropped, squared. -/
def unit (h w : Fin 1024 → EReal) : EReal := max (∑ k, h k * w k) 0 * max (∑ k, h k * w k) 0

/-- The end of the layer on one row: the row plus its feed-forward image, normed again. -/
def layerEnd (x g fg : Fin 1024 → EReal) (wu : Fin 1024 → Fin 4096 → EReal) (wd : Fin 4096 → Fin 1024 → EReal)
    (l : Fin 1024) : EReal :=
  rms (fun j => x j + ∑ n, unit (rms x g) (fun k => wu k n) * wd n j) fg l

/-- The contribution of 1024 of the hidden units. -/
def chunk (h : Fin 1024 → EReal) (A B : FVec Ideal S1024x1024 .bf16) (l : Fin 1024) : EReal :=
  ∑ n : Fin 1024, unit h (fun k => A (ix2 k n)) * B (ix2 n l)

/-- The normed rows of the 512 prompt rows followed by those of the 32 sample rows: a prompt row. -/
theorem pay3_prompt (v0 : FVec Ideal S512x1024 .f32) (v1 : FVec Ideal S32x1024 .f32) (v2 : FVec Ideal S1x1024 .f32)
    (r : Fin 512) (R : Fin 544) (hR : (R : ℕ) = r) (l : Fin 1024) :
    k0_pay3 (F := Ideal) v0 v1 v2 (ix2 R l) = rms (fun k => v0 (ix2 r k)) (fun k => v2 (ix2 0 k)) l := by
  pointwise [k0_pay3, rms]
  rw [dif_pos (by omega)]
  have : (⟨(R : ℕ), by omega⟩ : Fin 512) = r := Fin.ext hR
  rw [this]

/-- The same list of normed rows: a sample row. -/
theorem pay3_sample (v0 : FVec Ideal S512x1024 .f32) (v1 : FVec Ideal S32x1024 .f32) (v2 : FVec Ideal S1x1024 .f32)
    (r : Fin 32) (R : Fin 544) (hR : (R : ℕ) = 512 + r) (l : Fin 1024) :
    k0_pay3 (F := Ideal) v0 v1 v2 (ix2 R l) = rms (fun k => v1 (ix2 r k)) (fun k => v2 (ix2 0 k)) l := by
  pointwise [k0_pay3, rms]
  rw [dif_neg (by omega)]
  have : (⟨(R : ℕ) - 512, by omega⟩ : Fin 32) = r := Fin.ext (by show (R : ℕ) - 512 = r; omega)
  rw [this]

/-- The first 1024 hidden units' contribution to row `R`. -/
theorem pay4_at (v0 : FVec Ideal S512x1024 .f32) (v1 : FVec Ideal S32x1024 .f32) (v2 : FVec Ideal S1x1024 .f32)
    (A B : FVec Ideal S1024x1024 .bf16) (R : Fin 544) (l : Fin 1024) :
    k0_pay4 (F := Ideal) v0 v1 v2 A B (ix2 R l) = chunk (fun k => k0_pay3 (F := Ideal) v0 v1 v2 (ix2 R k)) A B l := by
  pointwise [k0_pay4, chunk, unit]

/-- The four contributions added up, first to last. -/
theorem pay5_at (h : FVec Ideal S544x1024 .bf16) (p : FVec Ideal S544x1024 .f32) (A B C D E G : FVec Ideal S1024x1024 .bf16)
    (R : Fin 544) (l : Fin 1024) :
    k0_pay5 (F := Ideal) h p A B C D E G (ix2 R l)
      = p (ix2 R l) + chunk (fun k => h (ix2 R k)) A B l + chunk (fun k => h (ix2 R k)) C D l
        + chunk (fun k => h (ix2 R k)) E G l := by
  pointwise [k0_pay5, chunk, unit]

/-- A sum over the 4096 hidden units is the sum of the four runs of 1024. -/
theorem sum_chunks (f : Fin 4096 → EReal) :
    ∑ n, f n = (∑ n : Fin 1024, f ⟨n, by omega⟩) + (∑ n : Fin 1024, f ⟨1024 + n, by omega⟩)
      + (∑ n : Fin 1024, f ⟨2048 + n, by omega⟩) + ∑ n : Fin 1024, f ⟨3072 + n, by omega⟩ := by
  rw [Fin.sum_univ_tiles 4 1024 rfl f, Fin.sum_univ_four]
  refine congrArg₂ (· + ·) (congrArg₂ (· + ·) (congrArg₂ (· + ·) ?_ ?_) ?_) ?_ <;>
    exact Finset.sum_congr rfl fun n _ => congrArg f (Fin.ext (by simp <;> omega))

/-- The feed-forward image of a row whose normed row is `h`: the body's sum of four contributions is the whole sum when the
    weights it loaded are the four runs of columns of `wu` and of rows of `wd`. -/
theorem chunks_eq (h : Fin 1024 → EReal) (A B C D E G H K : FVec Ideal S1024x1024 .bf16)
    (wu : Fin 1024 → Fin 4096 → EReal) (wd : Fin 4096 → Fin 1024 → EReal)
    (hA : ∀ k n, A (ix2 k n) = wu k ⟨n, by omega⟩) (hB : ∀ n l, B (ix2 n l) = wd ⟨n, by omega⟩ l)
    (hC : ∀ k n, C (ix2 k n) = wu k ⟨1024 + n, by omega⟩) (hD : ∀ n l, D (ix2 n l) = wd ⟨1024 + n, by omega⟩ l)
    (hE : ∀ k n, E (ix2 k n) = wu k ⟨2048 + n, by omega⟩) (hG : ∀ n l, G (ix2 n l) = wd ⟨2048 + n, by omega⟩ l)
    (hH : ∀ k n, H (ix2 k n) = wu k ⟨3072 + n, by omega⟩) (hK : ∀ n l, K (ix2 n l) = wd ⟨3072 + n, by omega⟩ l)
    (l : Fin 1024) :
    chunk h A B l + chunk h C D l + chunk h E G l + chunk h H K l = ∑ n, unit h (fun k => wu k n) * wd n l := by
  rw [sum_chunks]
  simp only [chunk, hA, hB, hC, hD, hE, hG, hH, hK]

/-- WHAT THE BODY STORES FOR A PROMPT ROW: the end of the layer on that row. -/
theorem prompt_at (v0 : FVec Ideal S512x1024 .f32) (v1 : FVec Ideal S32x1024 .f32) (v2 v3 : FVec Ideal S1x1024 .f32)
    (A B C D E G H K : FVec Ideal S1024x1024 .bf16)
    (x g fg : Fin 1024 → EReal) (wu : Fin 1024 → Fin 4096 → EReal) (wd : Fin 4096 → Fin 1024 → EReal) (r : Fin 512)
    (hx : ∀ k, v0 (ix2 r k) = x k) (hg : ∀ k, v2 (ix2 0 k) = g k) (hfg : ∀ k, v3 (ix2 0 k) = fg k)
    (hA : ∀ k n, A (ix2 k n) = wu k ⟨n, by omega⟩) (hB : ∀ n l, B (ix2 n l) = wd ⟨n, by omega⟩ l)
    (hC : ∀ k n, C (ix2 k n) = wu k ⟨1024 + n, by omega⟩) (hD : ∀ n l, D (ix2 n l) = wd ⟨1024 + n, by omega⟩ l)
    (hE : ∀ k n, E (ix2 k n) = wu k ⟨2048 + n, by omega⟩) (hG : ∀ n l, G (ix2 n l) = wd ⟨2048 + n, by omega⟩ l)
    (hH : ∀ k n, H (ix2 k n) = wu k ⟨3072 + n, by omega⟩) (hK : ∀ n l, K (ix2 n l) = wd ⟨3072 + n, by omega⟩ l)
    (l : Fin 1024) :
    k0_pay1 (F := Ideal) (k0_pay6 v0 (k0_pay3 v0 v1 v2) (k0_pay4 v0 v1 v2 A B) C D E G H K) v3
      (k0_pay8 v0 (k0_pay3 v0 v1 v2) (k0_pay4 v0 v1 v2 A B) C D E G H K) (ix2 r l) = layerEnd x g fg wu wd l := by
  have hn : ∀ k, k0_pay3 (F := Ideal) v0 v1 v2 (ix2 (⟨r, by omega⟩ : Fin 544) k) = rms x g k := fun k => by
    rw [pay3_prompt v0 v1 v2 r _ rfl k]; simp only [hx, hg]
  have hy : ∀ j, k0_pay6 (F := Ideal) v0 (k0_pay3 v0 v1 v2) (k0_pay4 v0 v1 v2 A B) C D E G H K (ix2 r j)
      = x j + ∑ n, unit (rms x g) (fun k => wu k n) * wd n j := fun j => by
    pointwise [k0_pay6]
    rw [pay5_at, pay4_at, hx]
    simp only [hn]
    rw [chunks_eq (rms x g) A B C D E G H K wu wd hA hB hC hD hE hG hH hK]
  pointwise [k0_pay1, k0_pay8, layerEnd, rms]
  simp only [hy, hfg]

/-- WHAT THE BODY STORES FOR A SAMPLE ROW: the end of the layer on that row. -/
theorem sample_at (v0 : FVec Ideal S512x1024 .f32) (v1 : FVec Ideal S32x1024 .f32) (v2 v3 : FVec Ideal S1x1024 .f32)
    (A B C D E G H K : FVec Ideal S1024x1024 .bf16)
    (x g fg : Fin 1024 → EReal) (wu : Fin 1024 → Fin 4096 → EReal) (wd : Fin 4096 → Fin 1024 → EReal) (r : Fin 32)
    (hx : ∀ k, v1 (ix2 r k) = x k) (hg : ∀ k, v2 (ix2 0 k) = g k) (hfg : ∀ k, v3 (ix2 0 k) = fg k)
    (hA : ∀ k n, A (ix2 k n) = wu k ⟨n, by omega⟩) (hB : ∀ n l, B (ix2 n l) = wd ⟨n, by omega⟩ l)
    (hC : ∀ k n, C (ix2 k n) = wu k ⟨1024 + n, by omega⟩) (hD : ∀ n l, D (ix2 n l) = wd ⟨1024 + n, by omega⟩ l)
    (hE : ∀ k n, E (ix2 k n) = wu k ⟨2048 + n, by omega⟩) (hG : ∀ n l, G (ix2 n l) = wd ⟨2048 + n, by omega⟩ l)
    (hH : ∀ k n, H (ix2 k n) = wu k ⟨3072 + n, by omega⟩) (hK : ∀ n l, K (ix2 n l) = wd ⟨3072 + n, by omega⟩ l)
    (l : Fin 1024) :
    k0_pay2 (F := Ideal) (k0_pay7 v1 (k0_pay3 v0 v1 v2) (k0_pay4 v0 v1 v2 A B) C D E G H K) v3 (ix2 r l)
      = layerEnd x g fg wu wd l := by
  have hn : ∀ k, k0_pay3 (F := Ideal) v0 v1 v2 (ix2 (⟨512 + r, by omega⟩ : Fin 544) k) = rms x g k := fun k => by
    rw [pay3_sample v0 v1 v2 r _ rfl k]; simp only [hx, hg]
  have hy : ∀ j, k0_pay7 (F := Ideal) v1 (k0_pay3 v0 v1 v2) (k0_pay4 v0 v1 v2 A B) C D E G H K (ix2 r j)
      = x j + ∑ n, unit (rms x g) (fun k => wu k n) * wd n j := fun j => by
    pointwise [k0_pay7]
    rw [pay5_at, pay4_at, hx]
    simp only [hn]
    rw [chunks_eq (rms x g) A B C D E G H K wu wd hA hB hC hD hE hG hH hK]
  pointwise [k0_pay2, layerEnd, rms]
  simp only [hy, hfg]

end Cert.Ffn
-- ==== Proof.FfnBlock.lean ====
/-  The end of the layer: what each grid point writes back, and the two result arrays after the run. -/
module

public import proofs.«01_k».proof.Proof.FfnRow
public import proofs.«01_k».proof.Proof.Gen.Kernel2Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

namespace Cert.Ffn

variable (m : (ℓ : Loc nD τ sig) → Buf (Elt Ideal) ℓ)

/-- The block indices of the windows: the two row windows and the two results step with the grid, the rest stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] :=
  (by decide +kernel : ∀ t : Fin grid0.N, _)

/-- The prompt result: the end of the layer on every row of the prompt array. -/
def outP (X : FVec Ideal S16384x1024 .f32) (g2 : FVec Ideal S2x1024 .f32) (wu : FVec Ideal S1024x4096 .bf16)
    (wd : FVec Ideal S4096x1024 .bf16) (fg : FVec Ideal S1x1024 .f32) : FVec Ideal S16384x1024 .f32 := fun i =>
  layerEnd (fun k => X (ix2 (i 0) k)) (fun k => g2 (ix2 1 k)) (fun k => fg (ix2 0 k)) (fun k n => wu (ix2 k n))
    (fun n j => wd (ix2 n j)) (i 1)

/-- The sample result: the end of the layer on every row of the sample array. -/
def outS (X : FVec Ideal S1024x1024 .f32) (g2 : FVec Ideal S2x1024 .f32) (wu : FVec Ideal S1024x4096 .bf16)
    (wd : FVec Ideal S4096x1024 .bf16) (fg : FVec Ideal S1x1024 .f32) : FVec Ideal S1024x1024 .f32 := fun i =>
  layerEnd (fun k => X (ix2 (i 0) k)) (fun k => g2 (ix2 1 k)) (fun k => fg (ix2 0 k)) (fun k n => wu (ix2 k n))
    (fun n j => wd (ix2 n j)) (i 1)

/-- What a point stores for the prompt, at row `r` and column `l` of its block, over the blocks it loads. -/
theorem out6_at (x0 : Vec Ideal S512x1024 .f32) (x1 : Vec Ideal S32x1024 .f32) (x2 : Vec Ideal S2x1024 .f32)
    (x3 : Vec Ideal S1024x4096 .bf16) (x4 : Vec Ideal S4096x1024 .bf16) (x5 : Vec Ideal S1x1024 .f32)
    (r : Fin 512) (l : Fin 1024) :
    out0_6 x0 x1 x2 x3 x4 x5 (ix2 r l) = layerEnd (fun k => x0 (ix2 r k)) (fun k => x2 (ix2 1 k)) (fun k => x5 (ix2 0 k))
      (fun k n => x3 (ix2 k n)) (fun n j => x4 (ix2 n j)) l := by
  unfold out0_6 k0_pay9 k0_pay10
  frame_out
  refine prompt_at _ _ _ _ _ _ _ _ _ _ _ _ _ _ _ _ _ r ?_ ?_ ?_ ?_ ?_ ?_ ?_ ?_ ?_ ?_ ?_ l
  all_goals first | (intros; rfl) | (intros; pointwise; done)

/-- What a point stores for the sample, at row `r` and column `l` of its block, over the blocks it loads. -/
theorem out7_at (x0 : Vec Ideal S512x1024 .f32) (x1 : Vec Ideal S32x1024 .f32) (x2 : Vec Ideal S2x1024 .f32)
    (x3 : Vec Ideal S1024x4096 .bf16) (x4 : Vec Ideal S4096x1024 .bf16) (x5 : Vec Ideal S1x1024 .f32)
    (r : Fin 32) (l : Fin 1024) :
    out0_7 x0 x1 x2 x3 x4 x5 (ix2 r l) = layerEnd (fun k => x1 (ix2 r k)) (fun k => x2 (ix2 1 k)) (fun k => x5 (ix2 0 k))
      (fun k n => x3 (ix2 k n)) (fun n j => x4 (ix2 n j)) l := by
  unfold out0_7 k0_pay9 k0_pay10
  frame_out
  refine sample_at _ _ _ _ _ _ _ _ _ _ _ _ _ _ _ _ _ r ?_ ?_ ?_ ?_ ?_ ?_ ?_ ?_ ?_ ?_ ?_ l
  all_goals first | (intros; rfl) | (intros; pointwise; done)

/-- THE PROMPT RESULT after the run. -/
theorem final6 (c : Dev nD) : (dats m 0 c).arrAt 6 (cfgs 0).N
    = outP (m ((c : Thread nD τ).loc main_arg0)) (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  blk_simp
  rw [after0_6]
  obtain ⟨r, l, rfl⟩ : ∃ (r : Fin 512) (l : Fin 1024), y = ix2 r l := ⟨y 0, y 1, eq_ix2 y⟩
  refine (out6_at _ _ _ _ _ _ r l).trans ?_
  unfold outP
  blk_point [iblk, V, idx t]

/-- THE SAMPLE RESULT after the run. -/
theorem final7 (c : Dev nD) : (dats m 0 c).arrAt 7 (cfgs 0).N
    = outS (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t _ y => ?_
  blk_simp
  rw [after0_7]
  obtain ⟨r, l, rfl⟩ : ∃ (r : Fin 32) (l : Fin 1024), y = ix2 r l := ⟨y 0, y 1, eq_ix2 y⟩
  refine (out7_at _ _ _ _ _ _ r l).trans ?_
  unfold outS
  blk_point [iblk, V, idx t]

end Cert.Ffn
-- ==== Proof.FfnRef.lean ====
/-  The reference for the end of the layer, read at an index. -/
module

public import proofs.«01_k».proof.Proof.FfnRow
public import proofs.«01_k».proof.Proof.Gen.Reference2Ideal.Run
public import Idealize.ShloMosaic.Lib.Tactic.CleanTypes

@[expose] public section

set_option maxRecDepth 16384

noncomputable section

open Idealize.ShloMosaic Idealize.ShloMosaic.TcCoe Idealize.SL.Sem
open Cert.Reference2Ideal Cert.Reference2Ideal.Gen Cert.Reference2Ideal.Value

namespace Cert.Ffn

variable (m : (ℓ : Loc nD τ sig) → Buf (Elt Ideal) ℓ)

/-- The reference's prompt result at row `R`, column `l`: the end of the layer on row `R`. -/
theorem ref_prompt (c : Dev nD) (R : Fin 16384) (l : Fin 1024) :
    (show FVec Ideal S16384x1024 .f32 from res_out0 m c) (ix2 R l)
      = layerEnd (fun k => (show FVec Ideal S16384x1024 .f32 from m ((c.tc : Thread nD τ).loc main_arg0)) (ix2 R k))
          (fun k => (show FVec Ideal S2x1024 .f32 from m ((c.tc : Thread nD τ).loc main_arg2)) (ix2 1 k))
          (fun k => (show FVec Ideal S1x1024 .f32 from m ((c.tc : Thread nD τ).loc main_arg5)) (ix2 0 k))
          (fun k n => (show FVec Ideal S1024x4096 .bf16 from m ((c.tc : Thread nD τ).loc main_arg3)) (ix2 k n))
          (fun n j => (show FVec Ideal S4096x1024 .bf16 from m ((c.tc : Thread nD τ).loc main_arg4)) (ix2 n j)) l := by
  show res_main_v35 m c (ix2 R l) = _
  unfold res_main_v35
  clean_types
  pointwise [layerEnd, rms, unit]

/-- The reference's sample result at row `R`, column `l`: the end of the layer on row `R`. -/
theorem ref_sample (c : Dev nD) (R : Fin 1024) (l : Fin 1024) :
    (show FVec Ideal S1024x1024 .f32 from res_out1 m c) (ix2 R l)
      = layerEnd (fun k => (show FVec Ideal S1024x1024 .f32 from m ((c.tc : Thread nD τ).loc main_arg1)) (ix2 R k))
          (fun k => (show FVec Ideal S2x1024 .f32 from m ((c.tc : Thread nD τ).loc main_arg2)) (ix2 1 k))
          (fun k => (show FVec Ideal S1x1024 .f32 from m ((c.tc : Thread nD τ).loc main_arg5)) (ix2 0 k))
          (fun k n => (show FVec Ideal S1024x4096 .bf16 from m ((c.tc : Thread nD τ).loc main_arg3)) (ix2 k n))
          (fun n j => (show FVec Ideal S4096x1024 .bf16 from m ((c.tc : Thread nD τ).loc main_arg4)) (ix2 n j)) l := by
  show res_main_v68 m c (ix2 R l) = _
  unfold res_main_v68
  clean_types
  pointwise [layerEnd, rms, unit]

end Cert.Ffn
-- ==== Proof.FfnClaim.lean ====
/-  The end of the layer: kernel and reference give the same two results. -/
module

public import proofs.«01_k».proof.Defs
public import proofs.«01_k».proof.Proof.FfnBlock
public import proofs.«01_k».proof.Proof.FfnRef
public import proofs.«01_k».proof.Proof.Gen.Kernel2Ideal
public import proofs.«01_k».proof.Proof.Gen.Reference2Ideal
public import Idealize.ShloMosaic.Lib.Claim

@[expose] public section

set_option maxRecDepth 16384

noncomputable section

open Idealize.ShloMosaic Idealize.ShloMosaic.TcCoe Idealize.SL.Sem

namespace Cert.Ffn

/-- The reference's first result is `outP` of the reference's own arguments. -/
theorem prompt_eq (m' : (ℓ : Loc Cert.Reference2Ideal.nD Cert.Reference2Ideal.τ Cert.Reference2Ideal.sig) → Buf (Elt Ideal) ℓ)
    (c : Dev Cert.Reference2Ideal.nD) :
    Cert.Reference2Ideal.Value.res_out0 m' c
      = outP (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg2))
          (m' ((c.tc : Thread Cert.Reference2Ideal.nD Cert.Reference2Ideal.τ).loc Cert.Reference2Ideal.main_arg3))
          (m' ((c.tc : Thread Cert.Reference2Ideal.nD Cert.Reference2Ideal.τ).loc Cert.Reference2Ideal.main_arg4))
          (m' ((c.tc : Thread Cert.Reference2Ideal.nD Cert.Reference2Ideal.τ).loc Cert.Reference2Ideal.main_arg5)) := by
  funext i
  have h : i = ix2 (i 0) (i 1) := eq_ix2 i
  rw [h]
  exact ref_prompt m' c (i 0) (i 1)

/-- The reference's second result is `outS` of the reference's own arguments. -/
theorem sample_eq (m' : (ℓ : Loc Cert.Reference2Ideal.nD Cert.Reference2Ideal.τ Cert.Reference2Ideal.sig) → Buf (Elt Ideal) ℓ)
    (c : Dev Cert.Reference2Ideal.nD) :
    Cert.Reference2Ideal.Value.res_out1 m' c
      = outS (m' ((c.tc : Thread Cert.Reference2Ideal.nD Cert.Reference2Ideal.τ).loc Cert.Reference2Ideal.main_arg1))
          (m' ((c.tc : Thread Cert.Reference2Ideal.nD Cert.Reference2Ideal.τ).loc Cert.Reference2Ideal.main_arg2))
          (m' ((c.tc : Thread Cert.Reference2Ideal.nD Cert.Reference2Ideal.τ).loc Cert.Reference2Ideal.main_arg3))
          (m' ((c.tc : Thread Cert.Reference2Ideal.nD Cert.Reference2Ideal.τ).loc Cert.Reference2Ideal.main_arg4))
          (m' ((c.tc : Thread Cert.Reference2Ideal.nD Cert.Reference2Ideal.τ).loc Cert.Reference2Ideal.main_arg5)) := by
  funext i
  have h : i = ix2 (i 0) (i 1) := eq_ix2 i
  rw [h]
  exact ref_sample m' c (i 0) (i 1)

attribute [local instance] Cert.Kernel2Ideal.Gen.facts Cert.Reference2Ideal.Gen.facts in
/-- THE VALUE CLAIM: from equal arguments the kernel and the reference end with equal results. -/
theorem algebraic : Cert.algebraic_Kernel2Ideal_Reference2Ideal := by
  pair_intro
  · run_from Cert.Kernel2Ideal.Gen.run_main m g
  · run_from Cert.Reference2Ideal.Value.run m' g'
    · refine (prompt_eq m' c).trans ((final6 m c).trans ?_).symm
      rw [(hagree c).1, (hagree c).2.2.1, (hagree c).2.2.2.1, (hagree c).2.2.2.2.1, (hagree c).2.2.2.2.2]
    · refine (sample_eq m' c).trans ((final7 m c).trans ?_).symm
      rw [(hagree c).2.1, (hagree c).2.2.1, (hagree c).2.2.2.1, (hagree c).2.2.2.2.1, (hagree c).2.2.2.2.2]

attribute [local instance] Cert.Reference2Ideal.Gen.facts in
/-- The reference runs to the end and leaves its arguments as they were. -/
theorem frame_ref : Cert.quiescent_Reference2Ideal := by
  intro m g hpre
  exact (θ_run Cert.Reference2Ideal.defs _ _).mono (fun r h => ⟨fun c => (h c).2.2, sem_eq_zero_of_no_sems (by decide) r.2⟩)
    (Cert.Reference2Ideal.Value.run m g)

end Cert.Ffn
-- ==== Proof.FfnFirstRow.lean ====
/-  The second half of the first layer, one row at a time: what each value the body computes is in terms of the row function,
    which here ends without a norm.  Everything here is about real-extended numbers and literal-shape vectors; no memory, no grid. -/
module

public import proofs.«01_k».proof.Proof.FfnRow
public import proofs.«01_k».proof.Proof.Gen.Kernel3Ideal.Skeleton
public import Idealize.ShloMosaic.Lib.Pointwise

@[expose] public section

set_option maxRecDepth 16384

noncomputable section

open Idealize.ShloMosaic Idealize.ShloMosaic.TcCoe Idealize.SL.Sem
open Cert.Kernel3Ideal Cert.Kernel3Ideal.Gen
open Cert.Ffn (rms unit chunk chunks_eq)

namespace Cert.FfnFirst

/-- The end of the layer on one row: the row plus its feed-forward image. -/
def layerEnd (x g : Fin 1024 → EReal) (wu : Fin 1024 → Fin 4096 → EReal) (wd : Fin 4096 → Fin 1024 → EReal)
    (j : Fin 1024) : EReal :=
  x j + ∑ n, unit (rms x g) (fun k => wu k n) * wd n j

/-- The normed rows of the 512 prompt rows followed by those of the 32 sample rows: a prompt row. -/
theorem pay2_prompt (v0 : FVec Ideal S512x1024 .f32) (v1 : FVec Ideal S32x1024 .f32) (v2 : FVec Ideal S1x1024 .f32)
    (r : Fin 512) (R : Fin 544) (hR : (R : ℕ) = r) (l : Fin 1024) :
    k0_pay2 (F := Ideal) v0 v1 v2 (ix2 R l) = rms (fun k => v0 (ix2 r k)) (fun k => v2 (ix2 0 k)) l := by
  pointwise [k0_pay2, rms]
  rw [dif_pos (by omega)]
  have : (⟨(R : ℕ), by omega⟩ : Fin 512) = r := Fin.ext hR
  rw [this]

/-- The same list of normed rows: a sample row. -/
theorem pay2_sample (v0 : FVec Ideal S512x1024 .f32) (v1 : FVec Ideal S32x1024 .f32) (v2 : FVec Ideal S1x1024 .f32)
    (r : Fin 32) (R : Fin 544) (hR : (R : ℕ) = 512 + r) (l : Fin 1024) :
    k0_pay2 (F := Ideal) v0 v1 v2 (ix2 R l) = rms (fun k => v1 (ix2 r k)) (fun k => v2 (ix2 0 k)) l := by
  pointwise [k0_pay2, rms]
  rw [dif_neg (by omega)]
  have : (⟨(R : ℕ) - 512, by omega⟩ : Fin 32) = r := Fin.ext (by show (R : ℕ) - 512 = r; omega)
  rw [this]

/-- The four contributions of 1024 hidden units each, added up first to last. -/
theorem pay5_at (v0 : FVec Ideal S512x1024 .f32) (v1 : FVec Ideal S32x1024 .f32) (v2 : FVec Ideal S1x1024 .f32)
    (A B C D E G H K : FVec Ideal S1024x1024 .bf16) (R : Fin 544) (l : Fin 1024) :
    k0_pay5 (F := Ideal) (k0_pay2 v0 v1 v2) (k0_pay3 v0 v1 v2 A) k0_pay4 B C D E G H K (ix2 R l)
      = chunk (fun k => k0_pay2 (F := Ideal) v0 v1 v2 (ix2 R k)) A B l + chunk (fun k => k0_pay2 (F := Ideal) v0 v1 v2 (ix2 R k)) C D l
        + chunk (fun k => k0_pay2 (F := Ideal) v0 v1 v2 (ix2 R k)) E G l + chunk (fun k => k0_pay2 (F := Ideal) v0 v1 v2 (ix2 R k)) H K l := by
  pointwise [k0_pay5, k0_pay3, k0_pay4, chunk, unit]

/-- The weight rows of the next layer, cast. -/
theorem pay1_at (v : FVec Ideal S1x32x2560 .f32) (r : Fin 32) (l : Fin 2560) : k0_pay1 (F := Ideal) v (ix2 r l) = v (ix3 0 r l) := by
  pointwise [k0_pay1]

/-- WHAT THE BODY STORES FOR A PROMPT ROW: the end of the layer on that row. -/
theorem prompt_at (v0 : FVec Ideal S512x1024 .f32) (v1 : FVec Ideal S32x1024 .f32) (v2 : FVec Ideal S1x1024 .f32)
    (A B C D E G H K : FVec Ideal S1024x1024 .bf16)
    (x g : Fin 1024 → EReal) (wu : Fin 1024 → Fin 4096 → EReal) (wd : Fin 4096 → Fin 1024 → EReal) (r : Fin 512)
    (hx : ∀ k, v0 (ix2 r k) = x k) (hg : ∀ k, v2 (ix2 0 k) = g k)
    (hA : ∀ k n, A (ix2 k n) = wu k ⟨n, by omega⟩) (hB : ∀ n l, B (ix2 n l) = wd ⟨n, by omega⟩ l)
    (hC : ∀ k n, C (ix2 k n) = wu k ⟨1024 + n, by omega⟩) (hD : ∀ n l, D (ix2 n l) = wd ⟨1024 + n, by omega⟩ l)
    (hE : ∀ k n, E (ix2 k n) = wu k ⟨2048 + n, by omega⟩) (hG : ∀ n l, G (ix2 n l) = wd ⟨2048 + n, by omega⟩ l)
    (hH : ∀ k n, H (ix2 k n) = wu k ⟨3072 + n, by omega⟩) (hK : ∀ n l, K (ix2 n l) = wd ⟨3072 + n, by omega⟩ l)
    (l : Fin 1024) :
    k0_pay6 (F := Ideal) v0 (k0_pay2 v0 v1 v2) (k0_pay3 v0 v1 v2 A) k0_pay4 B C D E G H K (ix2 r l) = layerEnd x g wu wd l := by
  have hn : ∀ k, k0_pay2 (F := Ideal) v0 v1 v2 (ix2 (⟨r, by omega⟩ : Fin 544) k) = rms x g k := fun k => by
    rw [pay2_prompt v0 v1 v2 r _ rfl k]; simp only [hx, hg]
  pointwise [k0_pay6, layerEnd]
  rw [pay5_at, hx]
  simp only [hn]
  rw [chunks_eq (rms x g) A B C D E G H K wu wd hA hB hC hD hE hG hH hK]

/-- WHAT THE BODY STORES FOR A SAMPLE ROW: the end of the layer on that row. -/
theorem sample_at (v0 : FVec Ideal S512x1024 .f32) (v1 : FVec Ideal S32x1024 .f32) (v2 : FVec Ideal S1x1024 .f32)
    (A B C D E G H K : FVec Ideal S1024x1024 .bf16)
    (x g : Fin 1024 → EReal) (wu : Fin 1024 → Fin 4096 → EReal) (wd : Fin 4096 → Fin 1024 → EReal) (r : Fin 32)
    (hx : ∀ k, v1 (ix2 r k) = x k) (hg : ∀ k, v2 (ix2 0 k) = g k)
    (hA : ∀ k n, A (ix2 k n) = wu k ⟨n, by omega⟩) (hB : ∀ n l, B (ix2 n l) = wd ⟨n, by omega⟩ l)
    (hC : ∀ k n, C (ix2 k n) = wu k ⟨1024 + n, by omega⟩) (hD : ∀ n l, D (ix2 n l) = wd ⟨1024 + n, by omega⟩ l)
    (hE : ∀ k n, E (ix2 k n) = wu k ⟨2048 + n, by omega⟩) (hG : ∀ n l, G (ix2 n l) = wd ⟨2048 + n, by omega⟩ l)
    (hH : ∀ k n, H (ix2 k n) = wu k ⟨3072 + n, by omega⟩) (hK : ∀ n l, K (ix2 n l) = wd ⟨3072 + n, by omega⟩ l)
    (l : Fin 1024) :
    k0_pay7 (F := Ideal) v1 (k0_pay2 v0 v1 v2) (k0_pay3 v0 v1 v2 A) k0_pay4 B C D E G H K (ix2 r l) = layerEnd x g wu wd l := by
  have hn : ∀ k, k0_pay2 (F := Ideal) v0 v1 v2 (ix2 (⟨512 + r, by omega⟩ : Fin 544) k) = rms x g k := fun k => by
    rw [pay2_sample v0 v1 v2 r _ rfl k]; simp only [hx, hg]
  pointwise [k0_pay7, layerEnd]
  rw [pay5_at, hx]
  simp only [hn]
  rw [chunks_eq (rms x g) A B C D E G H K wu wd hA hB hC hD hE hG hH hK]

end Cert.FfnFirst

end
-- ==== Proof.FfnFirstBlock.lean ====
/-  The end of the first layer: what each grid point writes back, and the two result arrays after the run. -/
module

public import proofs.«01_k».proof.Proof.FfnFirstRow
public import proofs.«01_k».proof.Proof.Gen.Kernel3Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Kernel3Ideal Cert.Kernel3Ideal.Gen

namespace Cert.FfnFirst

variable (m : (ℓ : Loc nD τ sig) → Buf (Elt Ideal) ℓ)

/-- The block indices of the windows: the two row windows and the two results step with the grid, the rest stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0]
    ∧ win0_6.index t = ![1, t.val, 0] ∧ win0_7.index t = ![t.val, 0] ∧ win0_8.index t = ![t.val, 0]
    ∧ win0_9.index t = ![t.val, 0] :=
  (by decide +kernel : ∀ t : Fin grid0.N, _)

/-- The prompt result: the end of the layer on every row of the prompt array. -/
def outP (X : FVec Ideal S16384x1024 .f32) (g2 : FVec Ideal S2x1024 .f32) (wu : FVec Ideal S1024x4096 .bf16)
    (wd : FVec Ideal S4096x1024 .bf16) : FVec Ideal S16384x1024 .f32 := fun i =>
  layerEnd (fun k => X (ix2 (i 0) k)) (fun k => g2 (ix2 0 k)) (fun k n => wu (ix2 k n))
    (fun n j => wd (ix2 n j)) (i 1)

/-- The sample result: the end of the layer on every row of the sample array. -/
def outS (X : FVec Ideal S1024x1024 .f32) (g2 : FVec Ideal S2x1024 .f32) (wu : FVec Ideal S1024x4096 .bf16)
    (wd : FVec Ideal S4096x1024 .bf16) : FVec Ideal S1024x1024 .f32 := fun i =>
  layerEnd (fun k => X (ix2 (i 0) k)) (fun k => g2 (ix2 0 k)) (fun k n => wu (ix2 k n))
    (fun n j => wd (ix2 n j)) (i 1)

/-- What a point stores for the prompt, at row `r` and column `l` of its block, over the blocks it loads. -/
theorem out7_at (x0 : Vec Ideal S512x1024 .f32) (x1 : Vec Ideal S32x1024 .f32) (x2 : Vec Ideal S2x1024 .f32)
    (x3 : Vec Ideal S1024x4096 .bf16) (x4 : Vec Ideal S4096x1024 .bf16) (x5 : Vec Ideal S1x1024 .f32) (x6 : Vec Ideal S1x32x2560 .f32)
    (r : Fin 512) (l : Fin 1024) :
    out0_7 x0 x1 x2 x3 x4 x5 x6 (ix2 r l) = layerEnd (fun k => x0 (ix2 r k)) (fun k => x2 (ix2 0 k))
      (fun k n => x3 (ix2 k n)) (fun n j => x4 (ix2 n j)) l := by
  unfold_out out0_7
  frame_out
  refine prompt_at _ _ _ _ _ _ _ _ _ _ _ _ _ _ _ r ?_ ?_ ?_ ?_ ?_ ?_ ?_ ?_ ?_ ?_ l
  all_goals first | (intros; rfl) | (intros; pointwise; done)

/-- What a point stores for the sample, at row `r` and column `l` of its block, over the blocks it loads. -/
theorem out8_at (x0 : Vec Ideal S512x1024 .f32) (x1 : Vec Ideal S32x1024 .f32) (x2 : Vec Ideal S2x1024 .f32)
    (x3 : Vec Ideal S1024x4096 .bf16) (x4 : Vec Ideal S4096x1024 .bf16) (x5 : Vec Ideal S1x1024 .f32) (x6 : Vec Ideal S1x32x2560 .f32)
    (r : Fin 32) (l : Fin 1024) :
    out0_8 x0 x1 x2 x3 x4 x5 x6 (ix2 r l) = layerEnd (fun k => x1 (ix2 r k)) (fun k => x2 (ix2 0 k))
      (fun k n => x3 (ix2 k n)) (fun n j => x4 (ix2 n j)) l := by
  unfold_out out0_8
  frame_out
  refine sample_at _ _ _ _ _ _ _ _ _ _ _ _ _ _ _ r ?_ ?_ ?_ ?_ ?_ ?_ ?_ ?_ ?_ ?_ l
  all_goals first | (intros; rfl) | (intros; pointwise; done)

/-- THE PROMPT RESULT after the run. -/
theorem final7 (c : Dev nD) : (dats m 0 c).arrAt 7 (cfgs 0).N
    = outP (m ((c : Thread nD τ).loc main_arg0)) (m ((c : Thread nD τ).loc main_arg2)) (m ((c : Thread nD τ).loc main_arg3))
        (m ((c : Thread nD τ).loc main_arg4)) := by
  refine (dats m 0 c).arrAt_eq_of_covers 7 _ (by decide +kernel) fun t _ y => ?_
  blk_simp
  rw [after0_7]
  obtain ⟨r, l, rfl⟩ : ∃ (r : Fin 512) (l : Fin 1024), y = ix2 r l := ⟨y 0, y 1, eq_ix2 y⟩
  refine (out7_at _ _ _ _ _ _ _ r l).trans ?_
  unfold outP
  blk_point [iblk, V, idx t]

/-- THE SAMPLE RESULT after the run. -/
theorem final8 (c : Dev nD) : (dats m 0 c).arrAt 8 (cfgs 0).N
    = outS (m ((c : Thread nD τ).loc main_arg1)) (m ((c : Thread nD τ).loc main_arg2)) (m ((c : Thread nD τ).loc main_arg3))
        (m ((c : Thread nD τ).loc main_arg4)) := by
  refine (dats m 0 c).arrAt_eq_of_covers 8 _ (by decide +kernel) fun t _ y => ?_
  blk_simp
  rw [after0_8]
  obtain ⟨r, l, rfl⟩ : ∃ (r : Fin 32) (l : Fin 1024), y = ix2 r l := ⟨y 0, y 1, eq_ix2 y⟩
  refine (out8_at _ _ _ _ _ _ _ r l).trans ?_
  unfold outS
  blk_point [iblk, V, idx t]

/-- The third result: the second layer's first weight. -/
def outW (W : FVec Ideal S2x1024x2560 .f32) : FVec Ideal S1024x2560 .bf16 := fun i => W (ix3 1 (i 0) (i 1))

/-- What a point stores of the weight, over the block it loads. -/
theorem out9_at (x0 : Vec Ideal S512x1024 .f32) (x1 : Vec Ideal S32x1024 .f32) (x2 : Vec Ideal S2x1024 .f32)
    (x3 : Vec Ideal S1024x4096 .bf16) (x4 : Vec Ideal S4096x1024 .bf16) (x5 : Vec Ideal S1x1024 .f32) (x6 : Vec Ideal S1x32x2560 .f32)
    (r : Fin 32) (l : Fin 2560) :
    out0_9 x0 x1 x2 x3 x4 x5 x6 (ix2 r l) = x6 (ix3 0 r l) := by
  unfold_out out0_9
  frame_out
  refine (pay1_at _ r l).trans ?_
  first | rfl | pointwise

/-- THE WEIGHT RESULT after the run. -/
theorem final9 (c : Dev nD) : (dats m 0 c).arrAt 9 (cfgs 0).N = outW (m ((c : Thread nD τ).loc main_arg6)) := by
  refine (dats m 0 c).arrAt_eq_of_covers 9 _ (by decide +kernel) fun t _ y => ?_
  blk_simp
  rw [after0_9]
  obtain ⟨r, l, rfl⟩ : ∃ (r : Fin 32) (l : Fin 2560), y = ix2 r l := ⟨y 0, y 1, eq_ix2 y⟩
  refine (out9_at _ _ _ _ _ _ _ r l).trans ?_
  unfold outW
  blk_point [iblk, V, idx t]

end Cert.FfnFirst

end
-- ==== Proof.FfnFirstRef.lean ====
/-  The reference for the end of the first layer, read at an index. -/
module

public import proofs.«01_k».proof.Proof.FfnFirstRow
public import proofs.«01_k».proof.Proof.Gen.Reference3Ideal.Run
public import Idealize.ShloMosaic.Lib.Tactic.CleanTypes

@[expose] public section

set_option maxRecDepth 16384

noncomputable section

open Idealize.ShloMosaic Idealize.ShloMosaic.TcCoe Idealize.SL.Sem
open Cert.Reference3Ideal Cert.Reference3Ideal.Gen Cert.Reference3Ideal.Value

namespace Cert.FfnFirst

variable (m : (ℓ : Loc nD τ sig) → Buf (Elt Ideal) ℓ)

/-- The reference's prompt result, as a term of its arguments. -/
def res_out0 (c : Dev nD) : FVec Ideal S16384x1024 .f32 :=
  addf (m ((c.tc : Thread nD τ).loc main_arg0)) (Host.dotGeneral dot_S16384x4096_S4096x1024_S16384x1024_1_0_0_1_n_n none (mulf (maximumf (Host.dotGeneral dot_S16384x1024_S1024x4096_S16384x4096_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![0, 0] (m ((c.tc : Thread nD τ).loc main_arg2)) slices_S2x1024_S1x1024_0_0) shapeCasts_S1x1024_S1024)))) (extf .f32 (m ((c.tc : Thread nD τ).loc main_arg3)) bitsLt_bf16_f32)) (broadcastInDim S16384x4096 ![] bcast_S_S16384x4096 (constant S_ .f32 0x00000000#32))) (maximumf (Host.dotGeneral dot_S16384x1024_S1024x4096_S16384x4096_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![0, 0] (m ((c.tc : Thread nD τ).loc main_arg2)) slices_S2x1024_S1x1024_0_0) shapeCasts_S1x1024_S1024)))) (extf .f32 (m ((c.tc : Thread nD τ).loc main_arg3)) bitsLt_bf16_f32)) (broadcastInDim S16384x4096 ![] bcast_S_S16384x4096 (constant S_ .f32 0x00000000#32)))) (extf .f32 (m ((c.tc : Thread nD τ).loc main_arg4)) bitsLt_bf16_f32))

/-- The reference's sample result, as a term of its arguments. -/
def res_out1 (c : Dev nD) : FVec Ideal S1024x1024 .f32 :=
  addf (m ((c.tc : Thread nD τ).loc main_arg1)) (Host.dotGeneral dot_S1024x4096_S4096x1024_S1024x1024_1_0_0_1_n_n none (mulf (maximumf (Host.dotGeneral dot_S1024x1024_S1024x4096_S1024x4096_1_0_0_1_n_n none (mulf (mulf (m ((c.tc : Thread nD τ).loc main_arg1)) (broadcastInDim S1024x1024 ![0, 1] bcast_S1024x1_S1024x1024_0_1 (Host.rsqrt (addf (Host.divf (broadcastInDim S1024x1 ![0] bcast_S1024_S1024x1_0 (Host.reduceAdd (mulf (m ((c.tc : Thread nD τ).loc main_arg1)) (m ((c.tc : Thread nD τ).loc main_arg1))) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 (shapeCast _ (extractStridedSlice S1x1024 ![0, 0] (m ((c.tc : Thread nD τ).loc main_arg2)) slices_S2x1024_S1x1024_0_0) shapeCasts_S1x1024_S1024)))) (extf .f32 (m ((c.tc : Thread nD τ).loc main_arg3)) bitsLt_bf16_f32)) (broadcastInDim S1024x4096 ![] bcast_S_S1024x4096 (constant S_ .f32 0x00000000#32))) (maximumf (Host.dotGeneral dot_S1024x1024_S1024x4096_S1024x4096_1_0_0_1_n_n none (mulf (mulf (m ((c.tc : Thread nD τ).loc main_arg1)) (broadcastInDim S1024x1024 ![0, 1] bcast_S1024x1_S1024x1024_0_1 (Host.rsqrt (addf (Host.divf (broadcastInDim S1024x1 ![0] bcast_S1024_S1024x1_0 (Host.reduceAdd (mulf (m ((c.tc : Thread nD τ).loc main_arg1)) (m ((c.tc : Thread nD τ).loc main_arg1))) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 (shapeCast _ (extractStridedSlice S1x1024 ![0, 0] (m ((c.tc : Thread nD τ).loc main_arg2)) slices_S2x1024_S1x1024_0_0) shapeCasts_S1x1024_S1024)))) (extf .f32 (m ((c.tc : Thread nD τ).loc main_arg3)) bitsLt_bf16_f32)) (broadcastInDim S1024x4096 ![] bcast_S_S1024x4096 (constant S_ .f32 0x00000000#32)))) (extf .f32 (m ((c.tc : Thread nD τ).loc main_arg4)) bitsLt_bf16_f32))

/-- The reference's weight result, as a term of its arguments. -/
def res_out2 (c : Dev nD) : FVec Ideal S1024x2560 .bf16 :=
  truncf .bf16 (shapeCast _ (extractStridedSlice S1x1024x2560 ![1, 0, 0] (m ((c.tc : Thread nD τ).loc main_arg6)) slices_S2x1024x2560_S1x1024x2560_1_0_0) shapeCasts_S1x1024x2560_S1024x2560) bitsLt_bf16_f32

/-- The reference's prompt result at row `R`, column `l`: the end of the layer on row `R`. -/
theorem ref_prompt (c : Dev nD) (R : Fin 16384) (l : Fin 1024) :
    res_out0 m c (ix2 R l)
      = layerEnd (fun k => (show FVec Ideal S16384x1024 .f32 from m ((c.tc : Thread nD τ).loc main_arg0)) (ix2 R k))
          (fun k => (show FVec Ideal S2x1024 .f32 from m ((c.tc : Thread nD τ).loc main_arg2)) (ix2 0 k))
          (fun k n => (show FVec Ideal S1024x4096 .bf16 from m ((c.tc : Thread nD τ).loc main_arg3)) (ix2 k n))
          (fun n j => (show FVec Ideal S4096x1024 .bf16 from m ((c.tc : Thread nD τ).loc main_arg4)) (ix2 n j)) l := by
  unfold res_out0
  clean_types
  pointwise [layerEnd, Ffn.rms, Ffn.unit]

/-- The reference's sample result at row `R`, column `l`: the end of the layer on row `R`. -/
theorem ref_sample (c : Dev nD) (R : Fin 1024) (l : Fin 1024) :
    res_out1 m c (ix2 R l)
      = layerEnd (fun k => (show FVec Ideal S1024x1024 .f32 from m ((c.tc : Thread nD τ).loc main_arg1)) (ix2 R k))
          (fun k => (show FVec Ideal S2x1024 .f32 from m ((c.tc : Thread nD τ).loc main_arg2)) (ix2 0 k))
          (fun k n => (show FVec Ideal S1024x4096 .bf16 from m ((c.tc : Thread nD τ).loc main_arg3)) (ix2 k n))
          (fun n j => (show FVec Ideal S4096x1024 .bf16 from m ((c.tc : Thread nD τ).loc main_arg4)) (ix2 n j)) l := by
  unfold res_out1
  clean_types
  pointwise [layerEnd, Ffn.rms, Ffn.unit]

/-- The reference's third result: the second layer's first weight. -/
theorem ref_cast (c : Dev nD) (R : Fin 1024) (l : Fin 2560) :
    res_out2 m c (ix2 R l)
      = (show FVec Ideal S2x1024x2560 .f32 from m ((c.tc : Thread nD τ).loc main_arg6)) (ix3 1 R l) := by
  unfold res_out2
  clean_types
  pointwise

/-- The reference runs to its end, with the three results named, and leaves its arguments as they were. -/
theorem run_ref (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = res_out0 m c
      ∧ r.2.mem ((c.tc : Thread nD τ).loc main_v41) = res_out1 m c
      ∧ r.2.mem ((c.tc : Thread nD τ).loc main_v44) = res_out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference3Ideal.Value.run m ρ

end Cert.FfnFirst

end
-- ==== Proof.FfnFirstClaim.lean ====
/-  The end of the first layer: kernel and reference give the same three results. -/
module

public import proofs.«01_k».proof.Defs
public import proofs.«01_k».proof.Proof.FfnFirstBlock
public import proofs.«01_k».proof.Proof.FfnFirstRef
public import proofs.«01_k».proof.Proof.Gen.Kernel3Ideal
public import proofs.«01_k».proof.Proof.Gen.Reference3Ideal
public import Idealize.ShloMosaic.Lib.Claim

@[expose] public section

set_option maxRecDepth 16384

noncomputable section

open Idealize.ShloMosaic Idealize.ShloMosaic.TcCoe Idealize.SL.Sem

namespace Cert.FfnFirst

/-- The reference's first result is `outP` of the reference's own arguments. -/
theorem prompt_eq (m' : (ℓ : Loc Cert.Reference3Ideal.nD Cert.Reference3Ideal.τ Cert.Reference3Ideal.sig) → Buf (Elt Ideal) ℓ)
    (c : Dev Cert.Reference3Ideal.nD) :
    res_out0 m' c
      = outP (m' ((c.tc : Thread Cert.Reference3Ideal.nD Cert.Reference3Ideal.τ).loc Cert.Reference3Ideal.main_arg0))
          (m' ((c.tc : Thread Cert.Reference3Ideal.nD Cert.Reference3Ideal.τ).loc Cert.Reference3Ideal.main_arg2))
          (m' ((c.tc : Thread Cert.Reference3Ideal.nD Cert.Reference3Ideal.τ).loc Cert.Reference3Ideal.main_arg3))
          (m' ((c.tc : Thread Cert.Reference3Ideal.nD Cert.Reference3Ideal.τ).loc Cert.Reference3Ideal.main_arg4)) := by
  funext i
  have h : i = ix2 (i 0) (i 1) := eq_ix2 i
  rw [h]
  exact ref_prompt m' c (i 0) (i 1)

/-- The reference's second result is `outS` of the reference's own arguments. -/
theorem sample_eq (m' : (ℓ : Loc Cert.Reference3Ideal.nD Cert.Reference3Ideal.τ Cert.Reference3Ideal.sig) → Buf (Elt Ideal) ℓ)
    (c : Dev Cert.Reference3Ideal.nD) :
    res_out1 m' c
      = outS (m' ((c.tc : Thread Cert.Reference3Ideal.nD Cert.Reference3Ideal.τ).loc Cert.Reference3Ideal.main_arg1))
          (m' ((c.tc : Thread Cert.Reference3Ideal.nD Cert.Reference3Ideal.τ).loc Cert.Reference3Ideal.main_arg2))
          (m' ((c.tc : Thread Cert.Reference3Ideal.nD Cert.Reference3Ideal.τ).loc Cert.Reference3Ideal.main_arg3))
          (m' ((c.tc : Thread Cert.Reference3Ideal.nD Cert.Reference3Ideal.τ).loc Cert.Reference3Ideal.main_arg4)) := by
  funext i
  have h : i = ix2 (i 0) (i 1) := eq_ix2 i
  rw [h]
  exact ref_sample m' c (i 0) (i 1)

/-- The reference's third result is `outW` of the reference's own argument. -/
theorem cast_eq (m' : (ℓ : Loc Cert.Reference3Ideal.nD Cert.Reference3Ideal.τ Cert.Reference3Ideal.sig) → Buf (Elt Ideal) ℓ)
    (c : Dev Cert.Reference3Ideal.nD) :
    res_out2 m' c
      = outW (m' ((c.tc : Thread Cert.Reference3Ideal.nD Cert.Reference3Ideal.τ).loc Cert.Reference3Ideal.main_arg6)) := by
  funext i
  have h : i = ix2 (i 0) (i 1) := eq_ix2 i
  rw [h]
  exact ref_cast m' c (i 0) (i 1)

attribute [local instance] Cert.Kernel3Ideal.Gen.facts Cert.Reference3Ideal.Gen.facts in
/-- THE VALUE CLAIM: from equal arguments the kernel and the reference end with equal results. -/
theorem algebraic : Cert.algebraic_Kernel3Ideal_Reference3Ideal := by
  pair_intro
  · run_from Cert.Kernel3Ideal.Gen.run_main m g
  · run_from run_ref m' g'
    · refine (prompt_eq m' c).trans ((final7 m c).trans ?_).symm
      rw [(hagree c).1, (hagree c).2.2.1, (hagree c).2.2.2.1, (hagree c).2.2.2.2.1]
    · refine (sample_eq m' c).trans ((final8 m c).trans ?_).symm
      rw [(hagree c).2.1, (hagree c).2.2.1, (hagree c).2.2.2.1, (hagree c).2.2.2.2.1]
    · refine (cast_eq m' c).trans ((final9 m c).trans ?_).symm
      rw [(hagree c).2.2.2.2.2.2]

attribute [local instance] Cert.Reference3Ideal.Gen.facts in
/-- The reference runs to the end and leaves its arguments as they were. -/
theorem frame_ref : Cert.quiescent_Reference3Ideal := by
  intro m g hpre
  exact (θ_run Cert.Reference3Ideal.defs _ _).mono (fun r h => ⟨fun c => (h c).2.2.2, sem_eq_zero_of_no_sems (by decide) r.2⟩)
    (run_ref m g)

end Cert.FfnFirst

end
-- ==== Proof.MixSpec.lean ====
/-  The projection of a normed row, and the pool's two state results in terms of it, over literal shapes. -/
module

public import Idealize.ShloMosaic.Lib.Pointwise

@[expose] public section

set_option maxRecDepth 16384

noncomputable section

open Idealize.ShloMosaic Idealize.ShloMosaic.TcCoe Idealize.SL.Sem

namespace Cert.Mix

/-- A row divided by its root mean square, times the gain, against a column of the projection weight. -/
def proj (x g w : Fin 1024 → EReal) : EReal :=
  ∑ k, x k * Ideal.rsqrt (Ideal.div (∑ k, x k * x k) (Ideal.ofBits .f32 0x44800000#32) + Ideal.ofBits .f32 0x358637BD#32) * g k * w k

/-- The prompt's pool state: the first layer's as given, the last layer's the projections of the last fifteen rows. -/
def outP (x : FVec Ideal ⟨3, ![8, 2048, 1024]⟩ .f32) (g : FVec Ideal ⟨2, ![2, 1024]⟩ .f32) (w : FVec Ideal ⟨2, ![1024, 2560]⟩ .bf16)
    (p : FVec Ideal ⟨4, ![2, 8, 15, 512]⟩ .f32) : FVec Ideal ⟨4, ![2, 8, 15, 512]⟩ .f32 := fun i =>
  if (i 0).val = 0 then p i
  else proj (fun k => x (ix3 (i 1) ⟨2033 + (i 2).val, Nat.add_lt_add_left (i 2).isLt 2033⟩ k)) (fun k => g (ix2 1 k))
    (fun k => w (ix2 k ⟨(i 3).val, Nat.lt_trans (i 3).isLt (by decide : 512 < 2560)⟩))

/-- The sample's pool state: the first layer's as given; the last layer's the later rows of the state before, then the
    projections of the new rows. -/
def outS (x : FVec Ideal ⟨2, ![1024, 1024]⟩ .f32) (s : FVec Ideal ⟨4, ![2, 15, 128, 512]⟩ .f32) (g : FVec Ideal ⟨2, ![2, 1024]⟩ .f32)
    (w : FVec Ideal ⟨2, ![1024, 2560]⟩ .bf16) (p : FVec Ideal ⟨4, ![2, 15, 128, 512]⟩ .f32) : FVec Ideal ⟨4, ![2, 15, 128, 512]⟩ .f32 := fun i =>
  if (i 0).val = 0 then p i
  else if h : (i 1).val < 7 then s (ix4 1 ⟨(i 1).val + 8, Nat.add_lt_add_right h 8⟩ (i 2) (i 3))
  else proj (fun k => x (ix2 ⟨8 * (i 2).val + ((i 1).val - 7), by
      have h1 : (i 1).val < 15 := (i 1).isLt
      have h2 : (i 2).val < 128 := (i 2).isLt
      omega⟩ k)) (fun k => g (ix2 1 k))
    (fun k => w (ix2 k ⟨(i 3).val, Nat.lt_trans (i 3).isLt (by decide : 512 < 2560)⟩))

end Cert.Mix

end
-- ==== Proof.MixOut.lean ====
/-  The pool's two state results after the run of the mixer. -/
module

public import proofs.«01_k».proof.Proof.MixSpec
public import proofs.«01_k».proof.Proof.MixKeep
public import proofs.«01_k».proof.Proof.WholeKernelIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Whole

namespace Cert.Mix

/-- The projection of a row read at natural coordinates is the projection of the row. -/
theorem proj_nat (x g w : ℕ → EReal) (x' g' w' : Fin 1024 → EReal) (hx : ∀ k : Fin 1024, x k = x' k) (hg : ∀ k : Fin 1024, g k = g' k)
    (hw : ∀ k : Fin 1024, w k = w' k) : ∑ k : Fin 1024, rmsN x g k * w k = proj x' g' w' := by
  obtain rfl : (fun k : Fin 1024 => x k) = x' := funext hx
  obtain rfl : (fun k : Fin 1024 => g k) = g' := funext hg
  obtain rfl : (fun k : Fin 1024 => w k) = w' := funext hw
  rfl

theorem keepP_at (x0 : Vec Ideal S1x1024x1024 .f32) (x4 : Vec Ideal S2x1024 .f32) (x5 : Vec Ideal S1024x2560 .bf16)
    (a b : Fin 1) (d : Fin 15) (e : Fin 512) (r : Fin 1024) (hr : r.val = 1009 + d.val) (l : Fin 2560) (hl : l.val = e.val) :
    keepP x0 x4 x5 (ix4 a b d e) = proj (fun k => x0 (ix3 0 r k)) (fun k => x4 (ix2 1 k)) (fun k => x5 (ix2 k l)) := by
  unfold keepP
  refine proj_nat _ _ (fun k => N2 x5 k e.val) _ _ _ (fun k => ?_) (fun k => N2_fin x4 1 k) (fun k => ?_)
  · show N3 x0 0 (1009 + d.val) k = _
    rw [← hr]; exact N3_fin x0 0 r k
  · show N2 x5 k e.val = _
    rw [← hl]; exact N2_fin x5 k l

theorem keepS_old (x1 : Vec Ideal S64x1024 .f32) (x2 : Vec Ideal S1x15x8x512 .f32) (x4 : Vec Ideal S2x1024 .f32) (x5 : Vec Ideal S1024x2560 .bf16)
    (a : Fin 1) (d : Fin 15) (b : Fin 8) (e : Fin 512) (hd : d.val < 7) (d' : Fin 15) (hd' : d'.val = d.val + 8) :
    keepS x1 x2 x4 x5 (ix4 a d b e) = x2 (ix4 0 d' b e) := by
  unfold keepS
  refine (if_pos hd).trans ?_
  show N4 x2 0 (d.val + 8) b.val e.val = _
  rw [← hd']; exact N4_fin x2 0 d' b e

theorem keepS_new (x1 : Vec Ideal S64x1024 .f32) (x2 : Vec Ideal S1x15x8x512 .f32) (x4 : Vec Ideal S2x1024 .f32) (x5 : Vec Ideal S1024x2560 .bf16)
    (a : Fin 1) (d : Fin 15) (b : Fin 8) (e : Fin 512) (hd : ¬ d.val < 7) (r : Fin 64) (hr : r.val = 8 * b.val + (d.val - 7))
    (l : Fin 2560) (hl : l.val = e.val) :
    keepS x1 x2 x4 x5 (ix4 a d b e) = proj (fun k => x1 (ix2 r k)) (fun k => x4 (ix2 1 k)) (fun k => x5 (ix2 k l)) := by
  unfold keepS
  refine (if_neg hd).trans ?_
  refine proj_nat _ _ (fun k => N2 x5 k e.val) _ _ _ (fun k => ?_) (fun k => N2_fin x4 1 k) (fun k => ?_)
  · show N2 x1 (8 * b.val + (d.val - 7)) k = _
    rw [← hr]; exact N2_fin x1 r k
  · show N2 x5 k e.val = _
    rw [← hl]; exact N2_fin x5 k l

variable (m : (ℓ : Loc nD τ sig) → Buf (Elt Ideal) ℓ)

/-- The block indices of the windows that the pool's state is made from and of the two it goes to. -/
theorem idx : ∀ t : Fin cfg0.N, win0_0.index t = ![t.val / 2, t.val % 2, 0] ∧ win0_1.index t = ![t.val, 0] ∧ win0_2.index t = ![1, 0, t.val, 0]
    ∧ win0_4.index t = ![0, 0] ∧ win0_5.index t = ![0, 0]
    ∧ win0_24.index t = ![1, t.val / 2, 0, 0] ∧ win0_26.index t = ![1, 0, t.val, 0] :=
  (by decide +kernel : ∀ t : Fin grid0.N, _)

/-- The prompt's state is written back at every second point. -/
theorem flush24 : ∀ t : Fin cfg0.N, win0_24.flush t = true → t.val % 2 = 1 :=
  (by decide +kernel : ∀ t : Fin grid0.N, _)

/-- THE PROMPT'S POOL STATE after the run. -/
theorem final24 (c : Dev nD) : (dats m 0 c).arrAt 24 (cfgs 0).N
    = outP (m ((c : Thread nD τ).loc main_arg0)) (m ((c : Thread nD τ).loc main_arg4)) (m ((c : Thread nD τ).loc main_arg5))
        (m ((c : Thread nD τ).loc main_arg23)) := by
  refine (dats m 0 c).arrAt_eq_of_coversWhere_of_agree 24 _ (fun β => 1 ≤ β 0) (by decide +kernel) (fun t hf y => ?_) (fun j hj => ?_)
  · have ht := flush24 t hf
    blk_simp
    rw [after0_24]
    obtain ⟨a, b, d, e, rfl⟩ : ∃ (a b : Fin 1) (d : Fin 15) (e : Fin 512), y = ix4 a b d e := ⟨y 0, y 1, y 2, y 3, eq_ix4 y⟩
    refine (keepP_at _ _ _ a b d e ⟨1009 + d.val, by omega⟩ rfl ⟨e.val, by omega⟩ rfl).trans ?_
    have hz : ¬ ((((View.whole main_v0_1).slice (win0_24.rect t)).emb (ix4 a b d e)) 0).val = 0 := by
      blk_simp [idx t]
      try omega
    unfold outP
    refine Eq.trans ?_ (if_neg hz).symm
    blk_point [iblk, V, idx t]
  · blk_simp [Pipeline.Window.cell_apply] at hj
    rw [A_eq m c 24]
    have e0 : V m c main_v0_1 = m ((c : Thread nD τ).loc main_arg23) := by
      unfold V
      unfold_abbrev_sides
      simp only [StableHlo.after_cons, StableHlo.after_nil]
      after_results_loop
      rfl
    refine (congrFun e0 _).trans ?_
    refine (if_pos ?_).symm
    blk_simp [Pipeline.Window.cell_apply]
    omega

/-- THE SAMPLE'S POOL STATE after the run. -/
theorem final26 (c : Dev nD) : (dats m 0 c).arrAt 26 (cfgs 0).N
    = outS (m ((c : Thread nD τ).loc main_arg1)) (m ((c : Thread nD τ).loc main_arg2)) (m ((c : Thread nD τ).loc main_arg4))
        (m ((c : Thread nD τ).loc main_arg5)) (m ((c : Thread nD τ).loc main_arg25)) := by
  refine (dats m 0 c).arrAt_eq_of_coversWhere_of_agree 26 _ (fun β => 1 ≤ β 0) (by decide +kernel) (fun t hf y => ?_) (fun j hj => ?_)
  · have ht : t.val < 16 := t.isLt
    blk_simp
    rw [after0_26]
    obtain ⟨a, d, b, e, rfl⟩ : ∃ (a : Fin 1) (d : Fin 15) (b : Fin 8) (e : Fin 512), y = ix4 a d b e := ⟨y 0, y 1, y 2, y 3, eq_ix4 y⟩
    have hz : ¬ ((((View.whole main_v0_3).slice (win0_26.rect t)).emb (ix4 a d b e)) 0).val = 0 := by
      blk_simp [idx t]
      try omega
    by_cases hd : d.val < 7
    · have hh : ((((View.whole main_v0_3).slice (win0_26.rect t)).emb (ix4 a d b e)) 1).val < 7 := by
        blk_simp [idx t]
        try omega
      refine (keepS_old _ _ _ _ a d b e hd ⟨d.val + 8, by omega⟩ rfl).trans ?_
      unfold outS
      refine Eq.trans ?_ (if_neg hz).symm
      refine Eq.trans ?_ (dif_pos hh).symm
      blk_point [iblk, V, idx t]
    · have hh : ¬ ((((View.whole main_v0_3).slice (win0_26.rect t)).emb (ix4 a d b e)) 1).val < 7 := by
        blk_simp [idx t]
        try omega
      refine (keepS_new _ _ _ _ a d b e hd ⟨8 * b.val + (d.val - 7), by omega⟩ rfl ⟨e.val, by omega⟩ rfl).trans ?_
      unfold outS
      refine Eq.trans ?_ (if_neg hz).symm
      refine Eq.trans ?_ (dif_neg hh).symm
      blk_point [iblk, V, idx t]
  · blk_simp [Pipeline.Window.cell_apply] at hj
    rw [A_eq m c 26]
    have e0 : V m c main_v0_3 = m ((c : Thread nD τ).loc main_arg25) := by
      unfold V
      unfold_abbrev_sides
      simp only [StableHlo.after_cons, StableHlo.after_nil]
      after_results_loop
      rfl
    refine (congrFun e0 _).trans ?_
    refine (if_pos ?_).symm
    blk_simp [Pipeline.Window.cell_apply]
    omega

end Cert.Mix

end
-- ==== Proof.MixRef.lean ====
/-  The reference for the pool's state, read at an index. -/
module

public import proofs.«01_k».proof.Proof.MixSpec
public import proofs.«01_k».proof.Proof.Gen.ReferenceIdeal.Run
public import Idealize.ShloMosaic.Lib.Tactic.CleanTypes

@[expose] public section

set_option maxRecDepth 16384

noncomputable section

open Idealize.ShloMosaic Idealize.ShloMosaic.TcCoe Idealize.SL.Sem
open Cert.ReferenceIdeal Cert.ReferenceIdeal.Gen Cert.ReferenceIdeal.Value

namespace Cert.Mix

variable (m : (ℓ : Loc nD τ sig) → Buf (Elt Ideal) ℓ)

/-- The reference's prompt state, as a term of its arguments. -/
def res_out0 (c : Dev nD) : FVec Ideal S2x8x15x512 .f32 :=
  concatenate S2x8x15x512 0 [⟨S1x8x15x512, (broadcastInDim S1x8x15x512 ![1, 2, 3] bcast_S8x15x512_S1x8x15x512_1_2_3 (shapeCast _ (extractStridedSlice S1x8x15x512 ![0, 0, 0, 0] (m ((c.tc : Thread nD τ).loc main_arg23)) slices_S2x8x15x512_S1x8x15x512_0_0_0_0) shapeCasts_S1x8x15x512_S8x15x512))⟩, ⟨S1x8x15x512, (broadcastInDim S1x8x15x512 ![1, 2, 3] bcast_S8x15x512_S1x8x15x512_1_2_3 (extractStridedSlice S8x15x512 ![0, 2033, 0] (Host.dotGeneral dot_S8x2048x1024_S1024x512_S8x2048x512_2_0_01_1_n_n none (mulf (mulf (m ((c.tc : Thread nD τ).loc main_arg0)) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (m ((c.tc : Thread nD τ).loc main_arg0)) (m ((c.tc : Thread nD τ).loc main_arg0))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] (m ((c.tc : Thread nD τ).loc main_arg4)) slices_S2x1024_S1x1024_1_0) shapeCasts_S1x1024_S1024)))) (extf .f32 (extractStridedSlice S1024x512 ![0, 0] (m ((c.tc : Thread nD τ).loc main_arg5)) slices_S1024x2560_S1024x512_0_0) bitsLt_bf16_f32)) slices_S8x2048x512_S8x15x512_0_2033_0))⟩] concatenates_S1x8x15x512_S1x8x15x512_S2x8x15x512_d0

/-- The reference's sample state, as a term of its arguments. -/
def res_out1 (c : Dev nD) : FVec Ideal S2x15x128x512 .f32 :=
  concatenate S2x15x128x512 0 [⟨S1x15x128x512, (broadcastInDim S1x15x128x512 ![1, 2, 3] bcast_S15x128x512_S1x15x128x512_1_2_3 (shapeCast _ (extractStridedSlice S1x15x128x512 ![0, 0, 0, 0] (m ((c.tc : Thread nD τ).loc main_arg25)) slices_S2x15x128x512_S1x15x128x512_0_0_0_0) shapeCasts_S1x15x128x512_S15x128x512))⟩, ⟨S1x15x128x512, (broadcastInDim S1x15x128x512 ![1, 2, 3] bcast_S15x128x512_S1x15x128x512_1_2_3 (extractStridedSlice S15x128x512 ![8, 0, 0] (concatenate S23x128x512 0 [⟨S15x128x512, (shapeCast _ (extractStridedSlice S1x15x128x512 ![1, 0, 0, 0] (m ((c.tc : Thread nD τ).loc main_arg2)) slices_S2x15x128x512_S1x15x128x512_1_0_0_0) shapeCasts_S1x15x128x512_S15x128x512)⟩, ⟨S8x128x512, (transpose S8x128x512 [1, 0, 2] (shapeCast _ (Host.dotGeneral dot_S1024x1024_S1024x512_S1024x512_1_0_0_1_n_n none (mulf (mulf (m ((c.tc : Thread nD τ).loc main_arg1)) (broadcastInDim S1024x1024 ![0, 1] bcast_S1024x1_S1024x1024_0_1 (Host.rsqrt (addf (Host.divf (broadcastInDim S1024x1 ![0] bcast_S1024_S1024x1_0 (Host.reduceAdd (mulf (m ((c.tc : Thread nD τ).loc main_arg1)) (m ((c.tc : Thread nD τ).loc main_arg1))) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 (shapeCast _ (extractStridedSlice S1x1024 ![1, 0] (m ((c.tc : Thread nD τ).loc main_arg4)) slices_S2x1024_S1x1024_1_0) shapeCasts_S1x1024_S1024)))) (extf .f32 (extractStridedSlice S1024x512 ![0, 0] (m ((c.tc : Thread nD τ).loc main_arg5)) slices_S1024x2560_S1024x512_0_0) bitsLt_bf16_f32)) shapeCasts_S1024x512_S128x8x512) transposes_S128x8x512_S8x128x512_1_0_2)⟩] concatenates_S15x128x512_S8x128x512_S23x128x512_d0) slices_S23x128x512_S15x128x512_8_0_0))⟩] concatenates_S1x15x128x512_S1x15x128x512_S2x15x128x512_d0

/-- The reference's prompt state in the first layer: the argument. -/
theorem ref_prompt_zero (c : Dev nD) (b : Fin 8) (t : Fin 15) (l : Fin 512) :
    res_out0 m c (ix4 0 b t l) = (show FVec Ideal S2x8x15x512 .f32 from m ((c.tc : Thread nD τ).loc main_arg23)) (ix4 0 b t l) := by
  unfold res_out0
  clean_types
  pointwise

/-- The reference's prompt state in the last layer: the projections of the last fifteen rows. -/
theorem ref_prompt_one (c : Dev nD) (b : Fin 8) (t : Fin 15) (l : Fin 512) (T : Fin 2048) (hT : T.val = 2033 + t.val) (L : Fin 2560) (hL : L.val = l.val) :
    res_out0 m c (ix4 1 b t l)
      = proj (fun k => (show FVec Ideal S8x2048x1024 .f32 from m ((c.tc : Thread nD τ).loc main_arg0)) (ix3 b T k))
          (fun k => (show FVec Ideal S2x1024 .f32 from m ((c.tc : Thread nD τ).loc main_arg4)) (ix2 1 k))
          (fun k => (show FVec Ideal S1024x2560 .bf16 from m ((c.tc : Thread nD τ).loc main_arg5)) (ix2 k L)) := by
  obtain ⟨T, T_lt⟩ := T
  dsimp only at hT
  subst hT
  obtain ⟨L, L_lt⟩ := L
  dsimp only at hL
  subst hL
  unfold res_out0
  clean_types
  pointwise [proj]

/-- The reference's sample state in the first layer: the argument. -/
theorem ref_sample_zero (c : Dev nD) (t : Fin 15) (b : Fin 128) (l : Fin 512) :
    res_out1 m c (ix4 0 t b l) = (show FVec Ideal S2x15x128x512 .f32 from m ((c.tc : Thread nD τ).loc main_arg25)) (ix4 0 t b l) := by
  unfold res_out1
  clean_types
  pointwise

/-- The reference's sample state in the last layer, its first seven rows: the later rows of the state before. -/
theorem ref_sample_old (c : Dev nD) (t : Fin 15) (b : Fin 128) (l : Fin 512) (T : Fin 15) (hT : T.val = t.val + 8) :
    res_out1 m c (ix4 1 t b l) = (show FVec Ideal S2x15x128x512 .f32 from m ((c.tc : Thread nD τ).loc main_arg2)) (ix4 1 T b l) := by
  have ht : t.val < 7 := by omega
  obtain ⟨T, T_lt⟩ := T
  dsimp only at hT
  subst hT
  unfold res_out1
  clean_types
  pointwise
  rw [dif_pos (by omega)]
  simp only [Nat.add_comm 8 t.val]

/-- The reference's sample state in the last layer, its last eight rows: the projections of the new rows. -/
theorem ref_sample_new (c : Dev nD) (t : Fin 15) (b : Fin 128) (l : Fin 512) (ht : 7 ≤ t.val) (R : Fin 1024) (hR : R.val = 8 * b.val + (t.val - 7))
    (L : Fin 2560) (hL : L.val = l.val) :
    res_out1 m c (ix4 1 t b l)
      = proj (fun k => (show FVec Ideal S1024x1024 .f32 from m ((c.tc : Thread nD τ).loc main_arg1)) (ix2 R k))
          (fun k => (show FVec Ideal S2x1024 .f32 from m ((c.tc : Thread nD τ).loc main_arg4)) (ix2 1 k))
          (fun k => (show FVec Ideal S1024x2560 .bf16 from m ((c.tc : Thread nD τ).loc main_arg5)) (ix2 k L)) := by
  obtain ⟨R, R_lt⟩ := R
  dsimp only at hR
  subst hR
  obtain ⟨L, L_lt⟩ := L
  dsimp only at hL
  subst hL
  unfold res_out1
  clean_types
  pointwise [proj]
  have e : b.val * 8 + (8 + t.val - 15) = 8 * b.val + (t.val - 7) := by omega
  rw [dif_neg (by omega)]
  simp only [e]

/-- The reference runs to its end, with the two results named, and leaves its arguments as they were. -/
theorem run_ref (ρ : Dev nD → PrngReg) :
    θ_run (defs (F := Ideal)) (onTc (τ := τ) (main (F := Ideal))) ⟨m, fun _ => 0, ρ⟩ fun r => ∀ c : Dev nD,
      r.2.mem ((c.tc : Thread nD τ).loc main_v47) = res_out0 m c
      ∧ r.2.mem ((c.tc : Thread nD τ).loc main_v52) = res_out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  Cert.ReferenceIdeal.Value.run m ρ

end Cert.Mix

end
-- ==== Proof.MixClaim.lean ====
/-  The pool's state of the mixer: kernel and reference give the same two results. -/
module

public import proofs.«01_k».proof.Defs
public import proofs.«01_k».proof.Proof.MixOut
public import proofs.«01_k».proof.Proof.MixRef
public import proofs.«01_k».proof.Proof.Gen.KernelIdeal
public import proofs.«01_k».proof.Proof.Gen.ReferenceIdeal
public import Idealize.ShloMosaic.Lib.Claim

@[expose] public section

set_option maxRecDepth 16384

noncomputable section

open Idealize.ShloMosaic Idealize.ShloMosaic.TcCoe Idealize.SL.Sem

namespace Cert.Mix

section
open Cert.KernelIdeal Cert.KernelIdeal.Gen

/-- The mixer runs to its end, with the pool's two states named, and leaves its arguments as they were. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_1)
        = outP (m ((c.tc : Thread nD τ).loc main_arg0)) (m ((c.tc : Thread nD τ).loc main_arg4)) (m ((c.tc : Thread nD τ).loc main_arg5))
            (m ((c.tc : Thread nD τ).loc main_arg23))
      ∧ r.2.mem ((c.tc : Thread nD τ).loc main_v0_3)
        = outS (m ((c.tc : Thread nD τ).loc main_arg1)) (m ((c.tc : Thread nD τ).loc main_arg2)) (m ((c.tc : Thread nD τ).loc main_arg4))
            (m ((c.tc : Thread nD τ).loc main_arg5)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono
    (fun _ h c => ⟨(((Pipeline.Dat.toRForget_arrAt_iff (Whole.dats m 0 c) rfl _ _).mp ((h.1 c).1 24)).trans (final24 m c)),
      (((Pipeline.Dat.toRForget_arrAt_iff (Whole.dats m 0 c) rfl _ _).mp ((h.1 c).1 26)).trans (final26 m c)), h.2 c⟩)
    (θ_run_and (Whole.run_main m ρ) (Whole.unchanged m ρ))

end

/-- The reference's first result is `outP` of the reference's own arguments. -/
theorem prompt_eq (m' : (ℓ : Loc Cert.ReferenceIdeal.nD Cert.ReferenceIdeal.τ Cert.ReferenceIdeal.sig) → Buf (Elt Ideal) ℓ)
    (c : Dev Cert.ReferenceIdeal.nD) :
    res_out0 m' c
      = outP (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg23)) := by
  funext i
  obtain ⟨a, b, t, l, rfl⟩ : ∃ (a : Fin 2) (b : Fin 8) (t : Fin 15) (l : Fin 512), i = ix4 a b t l := ⟨i 0, i 1, i 2, i 3, eq_ix4 i⟩
  obtain rfl | rfl : a = 0 ∨ a = 1 := by omega
  · exact (ref_prompt_zero m' c b t l).trans (if_pos rfl).symm
  · refine (ref_prompt_one m' c b t l ⟨2033 + t.val, by omega⟩ rfl ⟨l.val, by omega⟩ rfl).trans ?_
    exact (if_neg (by decide : ¬ (1 : Fin 2).val = 0)).symm

/-- The reference's second result is `outS` of the reference's own arguments. -/
theorem sample_eq (m' : (ℓ : Loc Cert.ReferenceIdeal.nD Cert.ReferenceIdeal.τ Cert.ReferenceIdeal.sig) → Buf (Elt Ideal) ℓ)
    (c : Dev Cert.ReferenceIdeal.nD) :
    res_out1 m' c
      = outS (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg25)) := by
  funext i
  obtain ⟨a, t, b, l, rfl⟩ : ∃ (a : Fin 2) (t : Fin 15) (b : Fin 128) (l : Fin 512), i = ix4 a t b l := ⟨i 0, i 1, i 2, i 3, eq_ix4 i⟩
  obtain rfl | rfl : a = 0 ∨ a = 1 := by omega
  · exact (ref_sample_zero m' c t b l).trans (if_pos rfl).symm
  · by_cases ht : t.val < 7
    · refine (ref_sample_old m' c t b l ⟨t.val + 8, by omega⟩ rfl).trans ?_
      unfold outS
      refine Eq.trans ?_ (if_neg (by decide : ¬ (1 : Fin 2).val = 0)).symm
      have hh : ((ix4 1 t b l : Shape.Idx ⟨4, ![2, 15, 128, 512]⟩) 1).val < 7 := ht
      refine Eq.trans ?_ (dif_pos hh).symm
      rfl
    · refine (ref_sample_new m' c t b l (by omega) ⟨8 * b.val + (t.val - 7), by omega⟩ rfl ⟨l.val, by omega⟩ rfl).trans ?_
      unfold outS
      refine Eq.trans ?_ (if_neg (by decide : ¬ (1 : Fin 2).val = 0)).symm
      have hh : ¬ ((ix4 1 t b l : Shape.Idx ⟨4, ![2, 15, 128, 512]⟩) 1).val < 7 := ht
      refine Eq.trans ?_ (dif_neg hh).symm
      rfl

attribute [local instance] Cert.KernelIdeal.Gen.facts Cert.ReferenceIdeal.Gen.facts in
/-- THE VALUE CLAIM: from equal arguments the kernel and the reference end with equal results. -/
theorem algebraic : Cert.algebraic_KernelIdeal_ReferenceIdeal := by
  intro m g m' g' hpre hagree
  refine ⟨_, _, run_kernel m g, (θ_run _ _ _).mono (fun r h c => ⟨(h c).1.trans ((prompt_eq m' c).trans ?_), (h c).2.1.trans ((sample_eq m' c).trans ?_), (h c).2.2⟩) (run_ref m' g')⟩
  · obtain ⟨h0, h1, h2, h3, h4, h5, h6, h7, h8, h9, h10, h11, h12, h13, h14, h15, h16, h17, h18, h19, h20, h21, h22, h23, h24, h25, h26⟩ := hagree c
    rw [h0, h4, h5, h23]
  · obtain ⟨h0, h1, h2, h3, h4, h5, h6, h7, h8, h9, h10, h11, h12, h13, h14, h15, h16, h17, h18, h19, h20, h21, h22, h23, h24, h25, h26⟩ := hagree c
    rw [h1, h2, h4, h5, h25]

attribute [local instance] Cert.ReferenceIdeal.Gen.facts in
/-- The reference runs to the end and leaves its arguments as they were. -/
theorem frame_ref : Cert.quiescent_ReferenceIdeal := by
  intro m g hpre
  exact (θ_run Cert.ReferenceIdeal.defs _ _).mono (fun r h => ⟨fun c => (h c).2.2, sem_eq_zero_of_no_sems (by decide) r.2⟩)
    (run_ref m g)

end Cert.Mix

end
-- ==== Proof.lean ====
module

public import proofs.«01_k».proof.Defs
public import proofs.«01_k».proof.Proof.WholeKernel
public import proofs.«01_k».proof.Proof.WholeKernelIdeal
public import proofs.«01_k».proof.Proof.Gen.Kernel2.Frame
public import proofs.«01_k».proof.Proof.Gen.Kernel2Ideal.Frame
public import proofs.«01_k».proof.Proof.FfnClaim
public import proofs.«01_k».proof.Proof.Gen.Kernel3.Frame
public import proofs.«01_k».proof.Proof.Gen.Kernel3Ideal.Frame
public import proofs.«01_k».proof.Proof.FfnFirstClaim
public import proofs.«01_k».proof.Proof.MixClaim
public import Idealize.ShloMosaic.Adequacy
public import Idealize.ShloMosaic.Init

@[expose] public section

noncomputable section

namespace Cert.Proof

open Idealize.ShloMosaic Idealize.SL.Sem Cert.Kernel

/-- Every stated claim holds. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts,
    fun m ρ _ => Cert.Kernel.Whole.frame m ρ, fun m ρ _ => Cert.KernelIdeal.Whole.frame m ρ,
    Cert.Mix.frame_ref,
    fun m ρ _ => Cert.Kernel2.Gen.frame m ρ, fun m ρ _ => Cert.Kernel2Ideal.Gen.frame m ρ,
    Cert.Ffn.frame_ref,
    fun m ρ _ => Cert.Kernel3.Gen.frame m ρ, fun m ρ _ => Cert.Kernel3Ideal.Gen.frame m ρ,
    Cert.FfnFirst.frame_ref,
    trivial, Cert.Mix.algebraic, trivial, Cert.Ffn.algebraic, trivial, Cert.FfnFirst.algebraic⟩

end Cert.Proof

end
